-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S128x4096 : Shape := ⟨2, ![128, 4096]⟩
abbrev S2x512x8192 : Shape := ⟨3, ![2, 512, 8192]⟩
abbrev S1x128 : Shape := ⟨2, ![1, 128]⟩
abbrev S32x128 : Shape := ⟨2, ![32, 128]⟩
abbrev S2x4 : Shape := ⟨2, ![2, 4]⟩
abbrev S32 : Shape := ⟨1, ![32]⟩
abbrev S1x1 : Shape := ⟨2, ![1, 1]⟩
abbrev S_ : Shape := ⟨0, ![]⟩
abbrev S1x128x8192 : Shape := ⟨3, ![1, 128, 8192]⟩
abbrev S128x128 : Shape := ⟨2, ![128, 128]⟩
abbrev S1 : Shape := ⟨1, ![1]⟩
abbrev S128x512 : Shape := ⟨2, ![128, 512]⟩
abbrev S1x512x8192 : Shape := ⟨3, ![1, 512, 8192]⟩
abbrev S512x8192 : Shape := ⟨2, ![512, 8192]⟩
abbrev S1x1x1 : Shape := ⟨3, ![1, 1, 1]⟩
abbrev S1x32x128 : Shape := ⟨3, ![1, 32, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S128x4096, .f32⟩
  | .local _ .vmem, ⟨3, _⟩ => ⟨S2x512x8192, .f32⟩
  | .local _ .vmem, ⟨4, _⟩ => ⟨S1x128, .f32⟩
  | .local _ .vmem, ⟨5, _⟩ => ⟨S32x128, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.addi v2 c0_i32
  let c32_i32_0 : BitVec 32 := 32#32
  let v4 : BitVec 32 := Scalar.remsi v3 c32_i32_0
  let c128_i32 : BitVec 32 := 128#32
  let v5 : BitVec 32 := Scalar.muli v4 c128_i32
  let c0_i32_6 : BitVec 32 := 0#32
  ![v5.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_62 : BitVec 32 := 128#32
  let v67 : BitVec 32 := Scalar.muli v2 c128_i32_62
  let v68 : Index := Scalar.indexCast v67
  let c0 : Index := 0#32
  ![v68.toNat, 0]
def k0_dev1 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_65 : BitVec 32 := 1#32
  let v75 : BitVec 32 := Scalar.addi v2 c1_i32_65
  let c32_i32_66 : BitVec 32 := 32#32
  let v76 : BitVec 32 := Scalar.remsi v75 c32_i32_66
  let c1_i32_68 : BitVec 32 := 1#32
  let v77 : BitVec 32 := Scalar.muli v76 c1_i32_68
  let v78 : BitVec 32 := Scalar.addi c0_i32_69 v77
  v78.toNat
def k0_dev2 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_70 : BitVec 32 := 2#32
  let v79 : BitVec 32 := Scalar.addi v2 c2_i32_70
  let c32_i32_71 : BitVec 32 := 32#32
  let v80 : BitVec 32 := Scalar.remsi v79 c32_i32_71
  let c1_i32_73 : BitVec 32 := 1#32
  let v81 : BitVec 32 := Scalar.muli v80 c1_i32_73
  let v82 : BitVec 32 := Scalar.addi c0_i32_74 v81
  v82.toNat
def k0_dev3 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_75 : BitVec 32 := 3#32
  let v83 : BitVec 32 := Scalar.addi v2 c3_i32_75
  let c32_i32_76 : BitVec 32 := 32#32
  let v84 : BitVec 32 := Scalar.remsi v83 c32_i32_76
  let c1_i32_78 : BitVec 32 := 1#32
  let v85 : BitVec 32 := Scalar.muli v84 c1_i32_78
  let v86 : BitVec 32 := Scalar.addi c0_i32_79 v85
  v86.toNat
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_80 : BitVec 32 := 4#32
  let v87 : BitVec 32 := Scalar.addi v2 c4_i32_80
  let c32_i32_81 : BitVec 32 := 32#32
  let v88 : BitVec 32 := Scalar.remsi v87 c32_i32_81
  let c1_i32_83 : BitVec 32 := 1#32
  let v89 : BitVec 32 := Scalar.muli v88 c1_i32_83
  let v90 : BitVec 32 := Scalar.addi c0_i32_84 v89
  v90.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_85 : BitVec 32 := 5#32
  let v91 : BitVec 32 := Scalar.addi v2 c5_i32_85
  let c32_i32_86 : BitVec 32 := 32#32
  let v92 : BitVec 32 := Scalar.remsi v91 c32_i32_86
  let c1_i32_88 : BitVec 32 := 1#32
  let v93 : BitVec 32 := Scalar.muli v92 c1_i32_88
  let v94 : BitVec 32 := Scalar.addi c0_i32_89 v93
  v94.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_90 : BitVec 32 := 6#32
  let v95 : BitVec 32 := Scalar.addi v2 c6_i32_90
  let c32_i32_91 : BitVec 32 := 32#32
  let v96 : BitVec 32 := Scalar.remsi v95 c32_i32_91
  let c1_i32_93 : BitVec 32 := 1#32
  let v97 : BitVec 32 := Scalar.muli v96 c1_i32_93
  let v98 : BitVec 32 := Scalar.addi c0_i32_94 v97
  v98.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_95 : BitVec 32 := 7#32
  let v99 : BitVec 32 := Scalar.addi v2 c7_i32_95
  let c32_i32_96 : BitVec 32 := 32#32
  let v100 : BitVec 32 := Scalar.remsi v99 c32_i32_96
  let c1_i32_98 : BitVec 32 := 1#32
  let v101 : BitVec 32 := Scalar.muli v100 c1_i32_98
  let v102 : BitVec 32 := Scalar.addi c0_i32_99 v101
  v102.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v103 : BitVec 32 := Scalar.addi v2 c8_i32
  let c32_i32_100 : BitVec 32 := 32#32
  let v104 : BitVec 32 := Scalar.remsi v103 c32_i32_100
  let c1_i32_102 : BitVec 32 := 1#32
  let v105 : BitVec 32 := Scalar.muli v104 c1_i32_102
  let v106 : BitVec 32 := Scalar.addi c0_i32_103 v105
  v106.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v107 : BitVec 32 := Scalar.addi v2 c9_i32
  let c32_i32_104 : BitVec 32 := 32#32
  let v108 : BitVec 32 := Scalar.remsi v107 c32_i32_104
  let c1_i32_106 : BitVec 32 := 1#32
  let v109 : BitVec 32 := Scalar.muli v108 c1_i32_106
  let v110 : BitVec 32 := Scalar.addi c0_i32_107 v109
  v110.toNat
def k0_dev10 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v111 : BitVec 32 := Scalar.addi v2 c10_i32
  let c32_i32_108 : BitVec 32 := 32#32
  let v112 : BitVec 32 := Scalar.remsi v111 c32_i32_108
  let c1_i32_110 : BitVec 32 := 1#32
  let v113 : BitVec 32 := Scalar.muli v112 c1_i32_110
  let v114 : BitVec 32 := Scalar.addi c0_i32_111 v113
  v114.toNat
def k0_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v115 : BitVec 32 := Scalar.addi v2 c11_i32
  let c32_i32_112 : BitVec 32 := 32#32
  let v116 : BitVec 32 := Scalar.remsi v115 c32_i32_112
  let c1_i32_114 : BitVec 32 := 1#32
  let v117 : BitVec 32 := Scalar.muli v116 c1_i32_114
  let v118 : BitVec 32 := Scalar.addi c0_i32_115 v117
  v118.toNat
def k0_dev12 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v119 : BitVec 32 := Scalar.addi v2 c12_i32
  let c32_i32_116 : BitVec 32 := 32#32
  let v120 : BitVec 32 := Scalar.remsi v119 c32_i32_116
  let c1_i32_118 : BitVec 32 := 1#32
  let v121 : BitVec 32 := Scalar.muli v120 c1_i32_118
  let v122 : BitVec 32 := Scalar.addi c0_i32_119 v121
  v122.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v123 : BitVec 32 := Scalar.addi v2 c13_i32
  let c32_i32_120 : BitVec 32 := 32#32
  let v124 : BitVec 32 := Scalar.remsi v123 c32_i32_120
  let c1_i32_122 : BitVec 32 := 1#32
  let v125 : BitVec 32 := Scalar.muli v124 c1_i32_122
  let v126 : BitVec 32 := Scalar.addi c0_i32_123 v125
  v126.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v127 : BitVec 32 := Scalar.addi v2 c14_i32
  let c32_i32_124 : BitVec 32 := 32#32
  let v128 : BitVec 32 := Scalar.remsi v127 c32_i32_124
  let c1_i32_126 : BitVec 32 := 1#32
  let v129 : BitVec 32 := Scalar.muli v128 c1_i32_126
  let v130 : BitVec 32 := Scalar.addi c0_i32_127 v129
  v130.toNat
def k0_dev15 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v131 : BitVec 32 := Scalar.addi v2 c15_i32
  let c32_i32_128 : BitVec 32 := 32#32
  let v132 : BitVec 32 := Scalar.remsi v131 c32_i32_128
  let c1_i32_130 : BitVec 32 := 1#32
  let v133 : BitVec 32 := Scalar.muli v132 c1_i32_130
  let v134 : BitVec 32 := Scalar.addi c0_i32_131 v133
  v134.toNat
def k0_dev16 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v135 : BitVec 32 := Scalar.addi v2 c16_i32
  let c32_i32_132 : BitVec 32 := 32#32
  let v136 : BitVec 32 := Scalar.remsi v135 c32_i32_132
  let c1_i32_134 : BitVec 32 := 1#32
  let v137 : BitVec 32 := Scalar.muli v136 c1_i32_134
  let v138 : BitVec 32 := Scalar.addi c0_i32_135 v137
  v138.toNat
def k0_dev17 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v139 : BitVec 32 := Scalar.addi v2 c17_i32
  let c32_i32_136 : BitVec 32 := 32#32
  let v140 : BitVec 32 := Scalar.remsi v139 c32_i32_136
  let c1_i32_138 : BitVec 32 := 1#32
  let v141 : BitVec 32 := Scalar.muli v140 c1_i32_138
  let v142 : BitVec 32 := Scalar.addi c0_i32_139 v141
  v142.toNat
def k0_dev18 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v143 : BitVec 32 := Scalar.addi v2 c18_i32
  let c32_i32_140 : BitVec 32 := 32#32
  let v144 : BitVec 32 := Scalar.remsi v143 c32_i32_140
  let c1_i32_142 : BitVec 32 := 1#32
  let v145 : BitVec 32 := Scalar.muli v144 c1_i32_142
  let v146 : BitVec 32 := Scalar.addi c0_i32_143 v145
  v146.toNat
def k0_dev19 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v147 : BitVec 32 := Scalar.addi v2 c19_i32
  let c32_i32_144 : BitVec 32 := 32#32
  let v148 : BitVec 32 := Scalar.remsi v147 c32_i32_144
  let c1_i32_146 : BitVec 32 := 1#32
  let v149 : BitVec 32 := Scalar.muli v148 c1_i32_146
  let v150 : BitVec 32 := Scalar.addi c0_i32_147 v149
  v150.toNat
def k0_dev20 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v151 : BitVec 32 := Scalar.addi v2 c20_i32
  let c32_i32_148 : BitVec 32 := 32#32
  let v152 : BitVec 32 := Scalar.remsi v151 c32_i32_148
  let c1_i32_150 : BitVec 32 := 1#32
  let v153 : BitVec 32 := Scalar.muli v152 c1_i32_150
  let v154 : BitVec 32 := Scalar.addi c0_i32_151 v153
  v154.toNat
def k0_dev21 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v155 : BitVec 32 := Scalar.addi v2 c21_i32
  let c32_i32_152 : BitVec 32 := 32#32
  let v156 : BitVec 32 := Scalar.remsi v155 c32_i32_152
  let c1_i32_154 : BitVec 32 := 1#32
  let v157 : BitVec 32 := Scalar.muli v156 c1_i32_154
  let v158 : BitVec 32 := Scalar.addi c0_i32_155 v157
  v158.toNat
def k0_dev22 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v159 : BitVec 32 := Scalar.addi v2 c22_i32
  let c32_i32_156 : BitVec 32 := 32#32
  let v160 : BitVec 32 := Scalar.remsi v159 c32_i32_156
  let c1_i32_158 : BitVec 32 := 1#32
  let v161 : BitVec 32 := Scalar.muli v160 c1_i32_158
  let v162 : BitVec 32 := Scalar.addi c0_i32_159 v161
  v162.toNat
def k0_dev23 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v163 : BitVec 32 := Scalar.addi v2 c23_i32
  let c32_i32_160 : BitVec 32 := 32#32
  let v164 : BitVec 32 := Scalar.remsi v163 c32_i32_160
  let c1_i32_162 : BitVec 32 := 1#32
  let v165 : BitVec 32 := Scalar.muli v164 c1_i32_162
  let v166 : BitVec 32 := Scalar.addi c0_i32_163 v165
  v166.toNat
def k0_dev24 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v167 : BitVec 32 := Scalar.addi v2 c24_i32
  let c32_i32_164 : BitVec 32 := 32#32
  let v168 : BitVec 32 := Scalar.remsi v167 c32_i32_164
  let c1_i32_166 : BitVec 32 := 1#32
  let v169 : BitVec 32 := Scalar.muli v168 c1_i32_166
  let v170 : BitVec 32 := Scalar.addi c0_i32_167 v169
  v170.toNat
def k0_dev25 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v171 : BitVec 32 := Scalar.addi v2 c25_i32
  let c32_i32_168 : BitVec 32 := 32#32
  let v172 : BitVec 32 := Scalar.remsi v171 c32_i32_168
  let c1_i32_170 : BitVec 32 := 1#32
  let v173 : BitVec 32 := Scalar.muli v172 c1_i32_170
  let v174 : BitVec 32 := Scalar.addi c0_i32_171 v173
  v174.toNat
def k0_dev26 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v175 : BitVec 32 := Scalar.addi v2 c26_i32
  let c32_i32_172 : BitVec 32 := 32#32
  let v176 : BitVec 32 := Scalar.remsi v175 c32_i32_172
  let c1_i32_174 : BitVec 32 := 1#32
  let v177 : BitVec 32 := Scalar.muli v176 c1_i32_174
  let v178 : BitVec 32 := Scalar.addi c0_i32_175 v177
  v178.toNat
def k0_dev27 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v179 : BitVec 32 := Scalar.addi v2 c27_i32
  let c32_i32_176 : BitVec 32 := 32#32
  let v180 : BitVec 32 := Scalar.remsi v179 c32_i32_176
  let c1_i32_178 : BitVec 32 := 1#32
  let v181 : BitVec 32 := Scalar.muli v180 c1_i32_178
  let v182 : BitVec 32 := Scalar.addi c0_i32_179 v181
  v182.toNat
def k0_dev28 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v183 : BitVec 32 := Scalar.addi v2 c28_i32
  let c32_i32_180 : BitVec 32 := 32#32
  let v184 : BitVec 32 := Scalar.remsi v183 c32_i32_180
  let c1_i32_182 : BitVec 32 := 1#32
  let v185 : BitVec 32 := Scalar.muli v184 c1_i32_182
  let v186 : BitVec 32 := Scalar.addi c0_i32_183 v185
  v186.toNat
def k0_dev29 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v187 : BitVec 32 := Scalar.addi v2 c29_i32
  let c32_i32_184 : BitVec 32 := 32#32
  let v188 : BitVec 32 := Scalar.remsi v187 c32_i32_184
  let c1_i32_186 : BitVec 32 := 1#32
  let v189 : BitVec 32 := Scalar.muli v188 c1_i32_186
  let v190 : BitVec 32 := Scalar.addi c0_i32_187 v189
  v190.toNat
def k0_dev30 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v191 : BitVec 32 := Scalar.addi v2 c30_i32
  let c32_i32_188 : BitVec 32 := 32#32
  let v192 : BitVec 32 := Scalar.remsi v191 c32_i32_188
  let c1_i32_190 : BitVec 32 := 1#32
  let v193 : BitVec 32 := Scalar.muli v192 c1_i32_190
  let v194 : BitVec 32 := Scalar.addi c0_i32_191 v193
  v194.toNat
def k0_dev31 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v195 : BitVec 32 := Scalar.addi v2 c31_i32
  let c32_i32_192 : BitVec 32 := 32#32
  let v196 : BitVec 32 := Scalar.remsi v195 c32_i32_192
  let c1_i32_194 : BitVec 32 := 1#32
  let v197 : BitVec 32 := Scalar.muli v196 c1_i32_194
  let v198 : BitVec 32 := Scalar.addi c0_i32_195 v197
  v198.toNat
def k0_off3 (d0 : Dev nD) (c1_i32_197 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v199 : BitVec 32 := Scalar.subi v2 c1_i32_197
  let c32_i32_198 : BitVec 32 := 32#32
  let v200 : BitVec 32 := Scalar.addi v199 c32_i32_198
  let c32_i32_199 : BitVec 32 := 32#32
  let v201 : BitVec 32 := Scalar.remsi v200 c32_i32_199
  let c128_i32_200 : BitVec 32 := 128#32
  let v202 : BitVec 32 := Scalar.muli v201 c128_i32_200
  let c0_i32_207 : BitVec 32 := 0#32
  ![v202.toNat, 0]
def k0_dev32 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_197 : BitVec 32 := 1#32
  let v199 : BitVec 32 := Scalar.subi v2 c1_i32_197
  let c32_i32_198 : BitVec 32 := 32#32
  let v200 : BitVec 32 := Scalar.addi v199 c32_i32_198
  let c32_i32_199 : BitVec 32 := 32#32
  let v201 : BitVec 32 := Scalar.remsi v200 c32_i32_199
  let c1_i32_203 : BitVec 32 := 1#32
  let v203 : BitVec 32 := Scalar.muli v201 c1_i32_203
  let v204 : BitVec 32 := Scalar.addi c0_i32_204 v203
  v204.toNat
def k0_dev33 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_208 : BitVec 32 := 2#32
  let v211 : BitVec 32 := Scalar.subi v2 c2_i32_208
  let c32_i32_209 : BitVec 32 := 32#32
  let v212 : BitVec 32 := Scalar.addi v211 c32_i32_209
  let c32_i32_210 : BitVec 32 := 32#32
  let v213 : BitVec 32 := Scalar.remsi v212 c32_i32_210
  let c1_i32_214 : BitVec 32 := 1#32
  let v215 : BitVec 32 := Scalar.muli v213 c1_i32_214
  let v216 : BitVec 32 := Scalar.addi c0_i32_215 v215
  v216.toNat
def k0_dev34 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_219 : BitVec 32 := 3#32
  let v223 : BitVec 32 := Scalar.subi v2 c3_i32_219
  let c32_i32_220 : BitVec 32 := 32#32
  let v224 : BitVec 32 := Scalar.addi v223 c32_i32_220
  let c32_i32_221 : BitVec 32 := 32#32
  let v225 : BitVec 32 := Scalar.remsi v224 c32_i32_221
  let c1_i32_225 : BitVec 32 := 1#32
  let v227 : BitVec 32 := Scalar.muli v225 c1_i32_225
  let v228 : BitVec 32 := Scalar.addi c0_i32_226 v227
  v228.toNat
def k0_dev35 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_230 : BitVec 32 := 4#32
  let v235 : BitVec 32 := Scalar.subi v2 c4_i32_230
  let c32_i32_231 : BitVec 32 := 32#32
  let v236 : BitVec 32 := Scalar.addi v235 c32_i32_231
  let c32_i32_232 : BitVec 32 := 32#32
  let v237 : BitVec 32 := Scalar.remsi v236 c32_i32_232
  let c1_i32_236 : BitVec 32 := 1#32
  let v239 : BitVec 32 := Scalar.muli v237 c1_i32_236
  let v240 : BitVec 32 := Scalar.addi c0_i32_237 v239
  v240.toNat
def k0_dev36 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_240 : BitVec 32 := 5#32
  let v247 : BitVec 32 := Scalar.subi v2 c5_i32_240
  let c32_i32_241 : BitVec 32 := 32#32
  let v248 : BitVec 32 := Scalar.addi v247 c32_i32_241
  let c32_i32_242 : BitVec 32 := 32#32
  let v249 : BitVec 32 := Scalar.remsi v248 c32_i32_242
  let c1_i32_246 : BitVec 32 := 1#32
  let v251 : BitVec 32 := Scalar.muli v249 c1_i32_246
  let v252 : BitVec 32 := Scalar.addi c0_i32_247 v251
  v252.toNat
def k0_dev37 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_250 : BitVec 32 := 6#32
  let v259 : BitVec 32 := Scalar.subi v2 c6_i32_250
  let c32_i32_251 : BitVec 32 := 32#32
  let v260 : BitVec 32 := Scalar.addi v259 c32_i32_251
  let c32_i32_252 : BitVec 32 := 32#32
  let v261 : BitVec 32 := Scalar.remsi v260 c32_i32_252
  let c1_i32_256 : BitVec 32 := 1#32
  let v263 : BitVec 32 := Scalar.muli v261 c1_i32_256
  let v264 : BitVec 32 := Scalar.addi c0_i32_257 v263
  v264.toNat
def k0_dev38 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_260 : BitVec 32 := 7#32
  let v271 : BitVec 32 := Scalar.subi v2 c7_i32_260
  let c32_i32_261 : BitVec 32 := 32#32
  let v272 : BitVec 32 := Scalar.addi v271 c32_i32_261
  let c32_i32_262 : BitVec 32 := 32#32
  let v273 : BitVec 32 := Scalar.remsi v272 c32_i32_262
  let c1_i32_266 : BitVec 32 := 1#32
  let v275 : BitVec 32 := Scalar.muli v273 c1_i32_266
  let v276 : BitVec 32 := Scalar.addi c0_i32_267 v275
  v276.toNat
def k0_dev39 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_270 : BitVec 32 := 8#32
  let v283 : BitVec 32 := Scalar.subi v2 c8_i32_270
  let c32_i32_271 : BitVec 32 := 32#32
  let v284 : BitVec 32 := Scalar.addi v283 c32_i32_271
  let c32_i32_272 : BitVec 32 := 32#32
  let v285 : BitVec 32 := Scalar.remsi v284 c32_i32_272
  let c1_i32_276 : BitVec 32 := 1#32
  let v287 : BitVec 32 := Scalar.muli v285 c1_i32_276
  let v288 : BitVec 32 := Scalar.addi c0_i32_277 v287
  v288.toNat
def k0_dev40 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_280 : BitVec 32 := 9#32
  let v295 : BitVec 32 := Scalar.subi v2 c9_i32_280
  let c32_i32_281 : BitVec 32 := 32#32
  let v296 : BitVec 32 := Scalar.addi v295 c32_i32_281
  let c32_i32_282 : BitVec 32 := 32#32
  let v297 : BitVec 32 := Scalar.remsi v296 c32_i32_282
  let c1_i32_286 : BitVec 32 := 1#32
  let v299 : BitVec 32 := Scalar.muli v297 c1_i32_286
  let v300 : BitVec 32 := Scalar.addi c0_i32_287 v299
  v300.toNat
def k0_dev41 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_290 : BitVec 32 := 10#32
  let v307 : BitVec 32 := Scalar.subi v2 c10_i32_290
  let c32_i32_291 : BitVec 32 := 32#32
  let v308 : BitVec 32 := Scalar.addi v307 c32_i32_291
  let c32_i32_292 : BitVec 32 := 32#32
  let v309 : BitVec 32 := Scalar.remsi v308 c32_i32_292
  let c1_i32_296 : BitVec 32 := 1#32
  let v311 : BitVec 32 := Scalar.muli v309 c1_i32_296
  let v312 : BitVec 32 := Scalar.addi c0_i32_297 v311
  v312.toNat
def k0_dev42 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_300 : BitVec 32 := 11#32
  let v319 : BitVec 32 := Scalar.subi v2 c11_i32_300
  let c32_i32_301 : BitVec 32 := 32#32
  let v320 : BitVec 32 := Scalar.addi v319 c32_i32_301
  let c32_i32_302 : BitVec 32 := 32#32
  let v321 : BitVec 32 := Scalar.remsi v320 c32_i32_302
  let c1_i32_306 : BitVec 32 := 1#32
  let v323 : BitVec 32 := Scalar.muli v321 c1_i32_306
  let v324 : BitVec 32 := Scalar.addi c0_i32_307 v323
  v324.toNat
def k0_dev43 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_310 : BitVec 32 := 12#32
  let v331 : BitVec 32 := Scalar.subi v2 c12_i32_310
  let c32_i32_311 : BitVec 32 := 32#32
  let v332 : BitVec 32 := Scalar.addi v331 c32_i32_311
  let c32_i32_312 : BitVec 32 := 32#32
  let v333 : BitVec 32 := Scalar.remsi v332 c32_i32_312
  let c1_i32_316 : BitVec 32 := 1#32
  let v335 : BitVec 32 := Scalar.muli v333 c1_i32_316
  let v336 : BitVec 32 := Scalar.addi c0_i32_317 v335
  v336.toNat
def k0_dev44 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_320 : BitVec 32 := 13#32
  let v343 : BitVec 32 := Scalar.subi v2 c13_i32_320
  let c32_i32_321 : BitVec 32 := 32#32
  let v344 : BitVec 32 := Scalar.addi v343 c32_i32_321
  let c32_i32_322 : BitVec 32 := 32#32
  let v345 : BitVec 32 := Scalar.remsi v344 c32_i32_322
  let c1_i32_326 : BitVec 32 := 1#32
  let v347 : BitVec 32 := Scalar.muli v345 c1_i32_326
  let v348 : BitVec 32 := Scalar.addi c0_i32_327 v347
  v348.toNat
def k0_dev45 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_330 : BitVec 32 := 14#32
  let v355 : BitVec 32 := Scalar.subi v2 c14_i32_330
  let c32_i32_331 : BitVec 32 := 32#32
  let v356 : BitVec 32 := Scalar.addi v355 c32_i32_331
  let c32_i32_332 : BitVec 32 := 32#32
  let v357 : BitVec 32 := Scalar.remsi v356 c32_i32_332
  let c1_i32_336 : BitVec 32 := 1#32
  let v359 : BitVec 32 := Scalar.muli v357 c1_i32_336
  let v360 : BitVec 32 := Scalar.addi c0_i32_337 v359
  v360.toNat
def k0_dev46 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_340 : BitVec 32 := 15#32
  let v367 : BitVec 32 := Scalar.subi v2 c15_i32_340
  let c32_i32_341 : BitVec 32 := 32#32
  let v368 : BitVec 32 := Scalar.addi v367 c32_i32_341
  let c32_i32_342 : BitVec 32 := 32#32
  let v369 : BitVec 32 := Scalar.remsi v368 c32_i32_342
  let c1_i32_346 : BitVec 32 := 1#32
  let v371 : BitVec 32 := Scalar.muli v369 c1_i32_346
  let v372 : BitVec 32 := Scalar.addi c0_i32_347 v371
  v372.toNat
def k0_dev47 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_350 : BitVec 32 := 16#32
  let v379 : BitVec 32 := Scalar.subi v2 c16_i32_350
  let c32_i32_351 : BitVec 32 := 32#32
  let v380 : BitVec 32 := Scalar.addi v379 c32_i32_351
  let c32_i32_352 : BitVec 32 := 32#32
  let v381 : BitVec 32 := Scalar.remsi v380 c32_i32_352
  let c1_i32_356 : BitVec 32 := 1#32
  let v383 : BitVec 32 := Scalar.muli v381 c1_i32_356
  let v384 : BitVec 32 := Scalar.addi c0_i32_357 v383
  v384.toNat
def k0_dev48 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_360 : BitVec 32 := 17#32
  let v391 : BitVec 32 := Scalar.subi v2 c17_i32_360
  let c32_i32_361 : BitVec 32 := 32#32
  let v392 : BitVec 32 := Scalar.addi v391 c32_i32_361
  let c32_i32_362 : BitVec 32 := 32#32
  let v393 : BitVec 32 := Scalar.remsi v392 c32_i32_362
  let c1_i32_366 : BitVec 32 := 1#32
  let v395 : BitVec 32 := Scalar.muli v393 c1_i32_366
  let v396 : BitVec 32 := Scalar.addi c0_i32_367 v395
  v396.toNat
def k0_dev49 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_370 : BitVec 32 := 18#32
  let v403 : BitVec 32 := Scalar.subi v2 c18_i32_370
  let c32_i32_371 : BitVec 32 := 32#32
  let v404 : BitVec 32 := Scalar.addi v403 c32_i32_371
  let c32_i32_372 : BitVec 32 := 32#32
  let v405 : BitVec 32 := Scalar.remsi v404 c32_i32_372
  let c1_i32_376 : BitVec 32 := 1#32
  let v407 : BitVec 32 := Scalar.muli v405 c1_i32_376
  let v408 : BitVec 32 := Scalar.addi c0_i32_377 v407
  v408.toNat
def k0_dev50 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_380 : BitVec 32 := 19#32
  let v415 : BitVec 32 := Scalar.subi v2 c19_i32_380
  let c32_i32_381 : BitVec 32 := 32#32
  let v416 : BitVec 32 := Scalar.addi v415 c32_i32_381
  let c32_i32_382 : BitVec 32 := 32#32
  let v417 : BitVec 32 := Scalar.remsi v416 c32_i32_382
  let c1_i32_386 : BitVec 32 := 1#32
  let v419 : BitVec 32 := Scalar.muli v417 c1_i32_386
  let v420 : BitVec 32 := Scalar.addi c0_i32_387 v419
  v420.toNat
def k0_dev51 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_390 : BitVec 32 := 20#32
  let v427 : BitVec 32 := Scalar.subi v2 c20_i32_390
  let c32_i32_391 : BitVec 32 := 32#32
  let v428 : BitVec 32 := Scalar.addi v427 c32_i32_391
  let c32_i32_392 : BitVec 32 := 32#32
  let v429 : BitVec 32 := Scalar.remsi v428 c32_i32_392
  let c1_i32_396 : BitVec 32 := 1#32
  let v431 : BitVec 32 := Scalar.muli v429 c1_i32_396
  let v432 : BitVec 32 := Scalar.addi c0_i32_397 v431
  v432.toNat
def k0_dev52 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_400 : BitVec 32 := 21#32
  let v439 : BitVec 32 := Scalar.subi v2 c21_i32_400
  let c32_i32_401 : BitVec 32 := 32#32
  let v440 : BitVec 32 := Scalar.addi v439 c32_i32_401
  let c32_i32_402 : BitVec 32 := 32#32
  let v441 : BitVec 32 := Scalar.remsi v440 c32_i32_402
  let c1_i32_406 : BitVec 32 := 1#32
  let v443 : BitVec 32 := Scalar.muli v441 c1_i32_406
  let v444 : BitVec 32 := Scalar.addi c0_i32_407 v443
  v444.toNat
def k0_dev53 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_410 : BitVec 32 := 22#32
  let v451 : BitVec 32 := Scalar.subi v2 c22_i32_410
  let c32_i32_411 : BitVec 32 := 32#32
  let v452 : BitVec 32 := Scalar.addi v451 c32_i32_411
  let c32_i32_412 : BitVec 32 := 32#32
  let v453 : BitVec 32 := Scalar.remsi v452 c32_i32_412
  let c1_i32_416 : BitVec 32 := 1#32
  let v455 : BitVec 32 := Scalar.muli v453 c1_i32_416
  let v456 : BitVec 32 := Scalar.addi c0_i32_417 v455
  v456.toNat
def k0_dev54 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_420 : BitVec 32 := 23#32
  let v463 : BitVec 32 := Scalar.subi v2 c23_i32_420
  let c32_i32_421 : BitVec 32 := 32#32
  let v464 : BitVec 32 := Scalar.addi v463 c32_i32_421
  let c32_i32_422 : BitVec 32 := 32#32
  let v465 : BitVec 32 := Scalar.remsi v464 c32_i32_422
  let c1_i32_426 : BitVec 32 := 1#32
  let v467 : BitVec 32 := Scalar.muli v465 c1_i32_426
  let v468 : BitVec 32 := Scalar.addi c0_i32_427 v467
  v468.toNat
def k0_dev55 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_430 : BitVec 32 := 24#32
  let v475 : BitVec 32 := Scalar.subi v2 c24_i32_430
  let c32_i32_431 : BitVec 32 := 32#32
  let v476 : BitVec 32 := Scalar.addi v475 c32_i32_431
  let c32_i32_432 : BitVec 32 := 32#32
  let v477 : BitVec 32 := Scalar.remsi v476 c32_i32_432
  let c1_i32_436 : BitVec 32 := 1#32
  let v479 : BitVec 32 := Scalar.muli v477 c1_i32_436
  let v480 : BitVec 32 := Scalar.addi c0_i32_437 v479
  v480.toNat
def k0_dev56 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_440 : BitVec 32 := 25#32
  let v487 : BitVec 32 := Scalar.subi v2 c25_i32_440
  let c32_i32_441 : BitVec 32 := 32#32
  let v488 : BitVec 32 := Scalar.addi v487 c32_i32_441
  let c32_i32_442 : BitVec 32 := 32#32
  let v489 : BitVec 32 := Scalar.remsi v488 c32_i32_442
  let c1_i32_446 : BitVec 32 := 1#32
  let v491 : BitVec 32 := Scalar.muli v489 c1_i32_446
  let v492 : BitVec 32 := Scalar.addi c0_i32_447 v491
  v492.toNat
def k0_dev57 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_450 : BitVec 32 := 26#32
  let v499 : BitVec 32 := Scalar.subi v2 c26_i32_450
  let c32_i32_451 : BitVec 32 := 32#32
  let v500 : BitVec 32 := Scalar.addi v499 c32_i32_451
  let c32_i32_452 : BitVec 32 := 32#32
  let v501 : BitVec 32 := Scalar.remsi v500 c32_i32_452
  let c1_i32_456 : BitVec 32 := 1#32
  let v503 : BitVec 32 := Scalar.muli v501 c1_i32_456
  let v504 : BitVec 32 := Scalar.addi c0_i32_457 v503
  v504.toNat
def k0_dev58 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_460 : BitVec 32 := 27#32
  let v511 : BitVec 32 := Scalar.subi v2 c27_i32_460
  let c32_i32_461 : BitVec 32 := 32#32
  let v512 : BitVec 32 := Scalar.addi v511 c32_i32_461
  let c32_i32_462 : BitVec 32 := 32#32
  let v513 : BitVec 32 := Scalar.remsi v512 c32_i32_462
  let c1_i32_466 : BitVec 32 := 1#32
  let v515 : BitVec 32 := Scalar.muli v513 c1_i32_466
  let v516 : BitVec 32 := Scalar.addi c0_i32_467 v515
  v516.toNat
def k0_dev59 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_470 : BitVec 32 := 28#32
  let v523 : BitVec 32 := Scalar.subi v2 c28_i32_470
  let c32_i32_471 : BitVec 32 := 32#32
  let v524 : BitVec 32 := Scalar.addi v523 c32_i32_471
  let c32_i32_472 : BitVec 32 := 32#32
  let v525 : BitVec 32 := Scalar.remsi v524 c32_i32_472
  let c1_i32_476 : BitVec 32 := 1#32
  let v527 : BitVec 32 := Scalar.muli v525 c1_i32_476
  let v528 : BitVec 32 := Scalar.addi c0_i32_477 v527
  v528.toNat
def k0_dev60 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_480 : BitVec 32 := 29#32
  let v535 : BitVec 32 := Scalar.subi v2 c29_i32_480
  let c32_i32_481 : BitVec 32 := 32#32
  let v536 : BitVec 32 := Scalar.addi v535 c32_i32_481
  let c32_i32_482 : BitVec 32 := 32#32
  let v537 : BitVec 32 := Scalar.remsi v536 c32_i32_482
  let c1_i32_486 : BitVec 32 := 1#32
  let v539 : BitVec 32 := Scalar.muli v537 c1_i32_486
  let v540 : BitVec 32 := Scalar.addi c0_i32_487 v539
  v540.toNat
def k0_dev61 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_490 : BitVec 32 := 30#32
  let v547 : BitVec 32 := Scalar.subi v2 c30_i32_490
  let c32_i32_491 : BitVec 32 := 32#32
  let v548 : BitVec 32 := Scalar.addi v547 c32_i32_491
  let c32_i32_492 : BitVec 32 := 32#32
  let v549 : BitVec 32 := Scalar.remsi v548 c32_i32_492
  let c1_i32_496 : BitVec 32 := 1#32
  let v551 : BitVec 32 := Scalar.muli v549 c1_i32_496
  let v552 : BitVec 32 := Scalar.addi c0_i32_497 v551
  v552.toNat
def k0_dev62 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_500 : BitVec 32 := 31#32
  let v559 : BitVec 32 := Scalar.subi v2 c31_i32_500
  let c32_i32_501 : BitVec 32 := 32#32
  let v560 : BitVec 32 := Scalar.addi v559 c32_i32_501
  let c32_i32_502 : BitVec 32 := 32#32
  let v561 : BitVec 32 := Scalar.remsi v560 c32_i32_502
  let c1_i32_506 : BitVec 32 := 1#32
  let v563 : BitVec 32 := Scalar.muli v561 c1_i32_506
  let v564 : BitVec 32 := Scalar.addi c0_i32_507 v563
  v564.toNat
def k0_off4 (d0 : Dev nD) (c1_i32_1243 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1183 : BitVec 32 := Scalar.addi v2 c1_i32_1243
  let c32_i32_1244 : BitVec 32 := 32#32
  let v1184 : BitVec 32 := Scalar.remsi v1183 c32_i32_1244
  ![v1184.toNat]
def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1247 : BitVec 32 := 0#32
  ![v2.toNat, 0]
def k0_dev63 (d0 : Dev nD) : Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1243 : BitVec 32 := 1#32
  let v1183 : BitVec 32 := Scalar.addi v2 c1_i32_1243
  let c32_i32_1244 : BitVec 32 := 32#32
  let v1184 : BitVec 32 := Scalar.remsi v1183 c32_i32_1244
  let c1_i32_1245 : BitVec 32 := 1#32
  let v1185 : BitVec 32 := Scalar.muli v1184 c1_i32_1245
  let v1186 : BitVec 32 := Scalar.addi c0_i32_1246 v1185
  v1186.toNat
def k0_dev64 (d0 : Dev nD) : Nat :=
  let c0_i32_1251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1248 : BitVec 32 := 2#32
  let v1192 : BitVec 32 := Scalar.addi v2 c2_i32_1248
  let c32_i32_1249 : BitVec 32 := 32#32
  let v1193 : BitVec 32 := Scalar.remsi v1192 c32_i32_1249
  let c1_i32_1250 : BitVec 32 := 1#32
  let v1194 : BitVec 32 := Scalar.muli v1193 c1_i32_1250
  let v1195 : BitVec 32 := Scalar.addi c0_i32_1251 v1194
  v1195.toNat
def k0_dev65 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1253 : BitVec 32 := 3#32
  let v1201 : BitVec 32 := Scalar.addi v2 c3_i32_1253
  let c32_i32_1254 : BitVec 32 := 32#32
  let v1202 : BitVec 32 := Scalar.remsi v1201 c32_i32_1254
  let c1_i32_1255 : BitVec 32 := 1#32
  let v1203 : BitVec 32 := Scalar.muli v1202 c1_i32_1255
  let v1204 : BitVec 32 := Scalar.addi c0_i32_1256 v1203
  v1204.toNat
def k0_dev66 (d0 : Dev nD) : Nat :=
  let c0_i32_1261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1258 : BitVec 32 := 4#32
  let v1210 : BitVec 32 := Scalar.addi v2 c4_i32_1258
  let c32_i32_1259 : BitVec 32 := 32#32
  let v1211 : BitVec 32 := Scalar.remsi v1210 c32_i32_1259
  let c1_i32_1260 : BitVec 32 := 1#32
  let v1212 : BitVec 32 := Scalar.muli v1211 c1_i32_1260
  let v1213 : BitVec 32 := Scalar.addi c0_i32_1261 v1212
  v1213.toNat
def k0_dev67 (d0 : Dev nD) : Nat :=
  let c0_i32_1266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1263 : BitVec 32 := 5#32
  let v1219 : BitVec 32 := Scalar.addi v2 c5_i32_1263
  let c32_i32_1264 : BitVec 32 := 32#32
  let v1220 : BitVec 32 := Scalar.remsi v1219 c32_i32_1264
  let c1_i32_1265 : BitVec 32 := 1#32
  let v1221 : BitVec 32 := Scalar.muli v1220 c1_i32_1265
  let v1222 : BitVec 32 := Scalar.addi c0_i32_1266 v1221
  v1222.toNat
def k0_dev68 (d0 : Dev nD) : Nat :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1268 : BitVec 32 := 6#32
  let v1228 : BitVec 32 := Scalar.addi v2 c6_i32_1268
  let c32_i32_1269 : BitVec 32 := 32#32
  let v1229 : BitVec 32 := Scalar.remsi v1228 c32_i32_1269
  let c1_i32_1270 : BitVec 32 := 1#32
  let v1230 : BitVec 32 := Scalar.muli v1229 c1_i32_1270
  let v1231 : BitVec 32 := Scalar.addi c0_i32_1271 v1230
  v1231.toNat
def k0_dev69 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1273 : BitVec 32 := 7#32
  let v1237 : BitVec 32 := Scalar.addi v2 c7_i32_1273
  let c32_i32_1274 : BitVec 32 := 32#32
  let v1238 : BitVec 32 := Scalar.remsi v1237 c32_i32_1274
  let c1_i32_1275 : BitVec 32 := 1#32
  let v1239 : BitVec 32 := Scalar.muli v1238 c1_i32_1275
  let v1240 : BitVec 32 := Scalar.addi c0_i32_1276 v1239
  v1240.toNat
def k0_dev70 (d0 : Dev nD) : Nat :=
  let c0_i32_1281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1278 : BitVec 32 := 8#32
  let v1246 : BitVec 32 := Scalar.addi v2 c8_i32_1278
  let c32_i32_1279 : BitVec 32 := 32#32
  let v1247 : BitVec 32 := Scalar.remsi v1246 c32_i32_1279
  let c1_i32_1280 : BitVec 32 := 1#32
  let v1248 : BitVec 32 := Scalar.muli v1247 c1_i32_1280
  let v1249 : BitVec 32 := Scalar.addi c0_i32_1281 v1248
  v1249.toNat
def k0_dev71 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1283 : BitVec 32 := 9#32
  let v1255 : BitVec 32 := Scalar.addi v2 c9_i32_1283
  let c32_i32_1284 : BitVec 32 := 32#32
  let v1256 : BitVec 32 := Scalar.remsi v1255 c32_i32_1284
  let c1_i32_1285 : BitVec 32 := 1#32
  let v1257 : BitVec 32 := Scalar.muli v1256 c1_i32_1285
  let v1258 : BitVec 32 := Scalar.addi c0_i32_1286 v1257
  v1258.toNat
def k0_dev72 (d0 : Dev nD) : Nat :=
  let c0_i32_1291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1288 : BitVec 32 := 10#32
  let v1264 : BitVec 32 := Scalar.addi v2 c10_i32_1288
  let c32_i32_1289 : BitVec 32 := 32#32
  let v1265 : BitVec 32 := Scalar.remsi v1264 c32_i32_1289
  let c1_i32_1290 : BitVec 32 := 1#32
  let v1266 : BitVec 32 := Scalar.muli v1265 c1_i32_1290
  let v1267 : BitVec 32 := Scalar.addi c0_i32_1291 v1266
  v1267.toNat
def k0_dev73 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1293 : BitVec 32 := 11#32
  let v1273 : BitVec 32 := Scalar.addi v2 c11_i32_1293
  let c32_i32_1294 : BitVec 32 := 32#32
  let v1274 : BitVec 32 := Scalar.remsi v1273 c32_i32_1294
  let c1_i32_1295 : BitVec 32 := 1#32
  let v1275 : BitVec 32 := Scalar.muli v1274 c1_i32_1295
  let v1276 : BitVec 32 := Scalar.addi c0_i32_1296 v1275
  v1276.toNat
def k0_dev74 (d0 : Dev nD) : Nat :=
  let c0_i32_1301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1298 : BitVec 32 := 12#32
  let v1282 : BitVec 32 := Scalar.addi v2 c12_i32_1298
  let c32_i32_1299 : BitVec 32 := 32#32
  let v1283 : BitVec 32 := Scalar.remsi v1282 c32_i32_1299
  let c1_i32_1300 : BitVec 32 := 1#32
  let v1284 : BitVec 32 := Scalar.muli v1283 c1_i32_1300
  let v1285 : BitVec 32 := Scalar.addi c0_i32_1301 v1284
  v1285.toNat
def k0_dev75 (d0 : Dev nD) : Nat :=
  let c0_i32_1306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1303 : BitVec 32 := 13#32
  let v1291 : BitVec 32 := Scalar.addi v2 c13_i32_1303
  let c32_i32_1304 : BitVec 32 := 32#32
  let v1292 : BitVec 32 := Scalar.remsi v1291 c32_i32_1304
  let c1_i32_1305 : BitVec 32 := 1#32
  let v1293 : BitVec 32 := Scalar.muli v1292 c1_i32_1305
  let v1294 : BitVec 32 := Scalar.addi c0_i32_1306 v1293
  v1294.toNat
def k0_dev76 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1308 : BitVec 32 := 14#32
  let v1300 : BitVec 32 := Scalar.addi v2 c14_i32_1308
  let c32_i32_1309 : BitVec 32 := 32#32
  let v1301 : BitVec 32 := Scalar.remsi v1300 c32_i32_1309
  let c1_i32_1310 : BitVec 32 := 1#32
  let v1302 : BitVec 32 := Scalar.muli v1301 c1_i32_1310
  let v1303 : BitVec 32 := Scalar.addi c0_i32_1311 v1302
  v1303.toNat
def k0_dev77 (d0 : Dev nD) : Nat :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1313 : BitVec 32 := 15#32
  let v1309 : BitVec 32 := Scalar.addi v2 c15_i32_1313
  let c32_i32_1314 : BitVec 32 := 32#32
  let v1310 : BitVec 32 := Scalar.remsi v1309 c32_i32_1314
  let c1_i32_1315 : BitVec 32 := 1#32
  let v1311 : BitVec 32 := Scalar.muli v1310 c1_i32_1315
  let v1312 : BitVec 32 := Scalar.addi c0_i32_1316 v1311
  v1312.toNat
def k0_dev78 (d0 : Dev nD) : Nat :=
  let c0_i32_1321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1318 : BitVec 32 := 16#32
  let v1318 : BitVec 32 := Scalar.addi v2 c16_i32_1318
  let c32_i32_1319 : BitVec 32 := 32#32
  let v1319 : BitVec 32 := Scalar.remsi v1318 c32_i32_1319
  let c1_i32_1320 : BitVec 32 := 1#32
  let v1320 : BitVec 32 := Scalar.muli v1319 c1_i32_1320
  let v1321 : BitVec 32 := Scalar.addi c0_i32_1321 v1320
  v1321.toNat
def k0_dev79 (d0 : Dev nD) : Nat :=
  let c0_i32_1326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1323 : BitVec 32 := 17#32
  let v1327 : BitVec 32 := Scalar.addi v2 c17_i32_1323
  let c32_i32_1324 : BitVec 32 := 32#32
  let v1328 : BitVec 32 := Scalar.remsi v1327 c32_i32_1324
  let c1_i32_1325 : BitVec 32 := 1#32
  let v1329 : BitVec 32 := Scalar.muli v1328 c1_i32_1325
  let v1330 : BitVec 32 := Scalar.addi c0_i32_1326 v1329
  v1330.toNat
def k0_dev80 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1328 : BitVec 32 := 18#32
  let v1336 : BitVec 32 := Scalar.addi v2 c18_i32_1328
  let c32_i32_1329 : BitVec 32 := 32#32
  let v1337 : BitVec 32 := Scalar.remsi v1336 c32_i32_1329
  let c1_i32_1330 : BitVec 32 := 1#32
  let v1338 : BitVec 32 := Scalar.muli v1337 c1_i32_1330
  let v1339 : BitVec 32 := Scalar.addi c0_i32_1331 v1338
  v1339.toNat
def k0_dev81 (d0 : Dev nD) : Nat :=
  let c0_i32_1336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1333 : BitVec 32 := 19#32
  let v1345 : BitVec 32 := Scalar.addi v2 c19_i32_1333
  let c32_i32_1334 : BitVec 32 := 32#32
  let v1346 : BitVec 32 := Scalar.remsi v1345 c32_i32_1334
  let c1_i32_1335 : BitVec 32 := 1#32
  let v1347 : BitVec 32 := Scalar.muli v1346 c1_i32_1335
  let v1348 : BitVec 32 := Scalar.addi c0_i32_1336 v1347
  v1348.toNat
def k0_dev82 (d0 : Dev nD) : Nat :=
  let c0_i32_1341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1338 : BitVec 32 := 20#32
  let v1354 : BitVec 32 := Scalar.addi v2 c20_i32_1338
  let c32_i32_1339 : BitVec 32 := 32#32
  let v1355 : BitVec 32 := Scalar.remsi v1354 c32_i32_1339
  let c1_i32_1340 : BitVec 32 := 1#32
  let v1356 : BitVec 32 := Scalar.muli v1355 c1_i32_1340
  let v1357 : BitVec 32 := Scalar.addi c0_i32_1341 v1356
  v1357.toNat
def k0_dev83 (d0 : Dev nD) : Nat :=
  let c0_i32_1346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1343 : BitVec 32 := 21#32
  let v1363 : BitVec 32 := Scalar.addi v2 c21_i32_1343
  let c32_i32_1344 : BitVec 32 := 32#32
  let v1364 : BitVec 32 := Scalar.remsi v1363 c32_i32_1344
  let c1_i32_1345 : BitVec 32 := 1#32
  let v1365 : BitVec 32 := Scalar.muli v1364 c1_i32_1345
  let v1366 : BitVec 32 := Scalar.addi c0_i32_1346 v1365
  v1366.toNat
def k0_dev84 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1348 : BitVec 32 := 22#32
  let v1372 : BitVec 32 := Scalar.addi v2 c22_i32_1348
  let c32_i32_1349 : BitVec 32 := 32#32
  let v1373 : BitVec 32 := Scalar.remsi v1372 c32_i32_1349
  let c1_i32_1350 : BitVec 32 := 1#32
  let v1374 : BitVec 32 := Scalar.muli v1373 c1_i32_1350
  let v1375 : BitVec 32 := Scalar.addi c0_i32_1351 v1374
  v1375.toNat
def k0_dev85 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1353 : BitVec 32 := 23#32
  let v1381 : BitVec 32 := Scalar.addi v2 c23_i32_1353
  let c32_i32_1354 : BitVec 32 := 32#32
  let v1382 : BitVec 32 := Scalar.remsi v1381 c32_i32_1354
  let c1_i32_1355 : BitVec 32 := 1#32
  let v1383 : BitVec 32 := Scalar.muli v1382 c1_i32_1355
  let v1384 : BitVec 32 := Scalar.addi c0_i32_1356 v1383
  v1384.toNat
def k0_dev86 (d0 : Dev nD) : Nat :=
  let c0_i32_1361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1358 : BitVec 32 := 24#32
  let v1390 : BitVec 32 := Scalar.addi v2 c24_i32_1358
  let c32_i32_1359 : BitVec 32 := 32#32
  let v1391 : BitVec 32 := Scalar.remsi v1390 c32_i32_1359
  let c1_i32_1360 : BitVec 32 := 1#32
  let v1392 : BitVec 32 := Scalar.muli v1391 c1_i32_1360
  let v1393 : BitVec 32 := Scalar.addi c0_i32_1361 v1392
  v1393.toNat
def k0_dev87 (d0 : Dev nD) : Nat :=
  let c0_i32_1366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1363 : BitVec 32 := 25#32
  let v1399 : BitVec 32 := Scalar.addi v2 c25_i32_1363
  let c32_i32_1364 : BitVec 32 := 32#32
  let v1400 : BitVec 32 := Scalar.remsi v1399 c32_i32_1364
  let c1_i32_1365 : BitVec 32 := 1#32
  let v1401 : BitVec 32 := Scalar.muli v1400 c1_i32_1365
  let v1402 : BitVec 32 := Scalar.addi c0_i32_1366 v1401
  v1402.toNat
def k0_dev88 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1368 : BitVec 32 := 26#32
  let v1408 : BitVec 32 := Scalar.addi v2 c26_i32_1368
  let c32_i32_1369 : BitVec 32 := 32#32
  let v1409 : BitVec 32 := Scalar.remsi v1408 c32_i32_1369
  let c1_i32_1370 : BitVec 32 := 1#32
  let v1410 : BitVec 32 := Scalar.muli v1409 c1_i32_1370
  let v1411 : BitVec 32 := Scalar.addi c0_i32_1371 v1410
  v1411.toNat
def k0_dev89 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1373 : BitVec 32 := 27#32
  let v1417 : BitVec 32 := Scalar.addi v2 c27_i32_1373
  let c32_i32_1374 : BitVec 32 := 32#32
  let v1418 : BitVec 32 := Scalar.remsi v1417 c32_i32_1374
  let c1_i32_1375 : BitVec 32 := 1#32
  let v1419 : BitVec 32 := Scalar.muli v1418 c1_i32_1375
  let v1420 : BitVec 32 := Scalar.addi c0_i32_1376 v1419
  v1420.toNat
def k0_dev90 (d0 : Dev nD) : Nat :=
  let c0_i32_1381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1378 : BitVec 32 := 28#32
  let v1426 : BitVec 32 := Scalar.addi v2 c28_i32_1378
  let c32_i32_1379 : BitVec 32 := 32#32
  let v1427 : BitVec 32 := Scalar.remsi v1426 c32_i32_1379
  let c1_i32_1380 : BitVec 32 := 1#32
  let v1428 : BitVec 32 := Scalar.muli v1427 c1_i32_1380
  let v1429 : BitVec 32 := Scalar.addi c0_i32_1381 v1428
  v1429.toNat
def k0_dev91 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1383 : BitVec 32 := 29#32
  let v1435 : BitVec 32 := Scalar.addi v2 c29_i32_1383
  let c32_i32_1384 : BitVec 32 := 32#32
  let v1436 : BitVec 32 := Scalar.remsi v1435 c32_i32_1384
  let c1_i32_1385 : BitVec 32 := 1#32
  let v1437 : BitVec 32 := Scalar.muli v1436 c1_i32_1385
  let v1438 : BitVec 32 := Scalar.addi c0_i32_1386 v1437
  v1438.toNat
def k0_dev92 (d0 : Dev nD) : Nat :=
  let c0_i32_1391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1388 : BitVec 32 := 30#32
  let v1444 : BitVec 32 := Scalar.addi v2 c30_i32_1388
  let c32_i32_1389 : BitVec 32 := 32#32
  let v1445 : BitVec 32 := Scalar.remsi v1444 c32_i32_1389
  let c1_i32_1390 : BitVec 32 := 1#32
  let v1446 : BitVec 32 := Scalar.muli v1445 c1_i32_1390
  let v1447 : BitVec 32 := Scalar.addi c0_i32_1391 v1446
  v1447.toNat
def k0_dev93 (d0 : Dev nD) : Nat :=
  let c0_i32_1396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1393 : BitVec 32 := 31#32
  let v1453 : BitVec 32 := Scalar.addi v2 c31_i32_1393
  let c32_i32_1394 : BitVec 32 := 32#32
  let v1454 : BitVec 32 := Scalar.remsi v1453 c32_i32_1394
  let c1_i32_1395 : BitVec 32 := 1#32
  let v1455 : BitVec 32 := Scalar.muli v1454 c1_i32_1395
  let v1456 : BitVec 32 := Scalar.addi c0_i32_1396 v1455
  v1456.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1463 : Index := Scalar.indexCast v2
  let c0_1400 : Index := 0#32
  ![v1463.toNat, 0]
def k0_off8 (d0 : Dev nD) (c1_i32_1587 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1591 : BitVec 32 := Scalar.addi v2 c1_i32_1587
  let c32_i32_1588 : BitVec 32 := 32#32
  let v1592 : BitVec 32 := Scalar.remsi v1591 c32_i32_1588
  let c0_i32_1591 : BitVec 32 := 0#32
  ![v1592.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Body.lean ====
/- The kernel's body, written as loops. The printed body lists several hundred transfers, signals and waits one by one;
   here each family of them is one function of an index, and the body is a sequence of loops over these
   functions. The printed body equals this one by unfolding (`body_eq_prog`). -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.Ring

open Cert.KernelIdeal Cert.KernelIdeal.Gen
open Idealize.ShloMosaic Idealize.ShloMosaic.TcCoe Idealize.SL.Sem

variable {F : FTy → Type} [FloatOps F]

/-- Runs `f 0`, `f 1`, …, `f (n-1)` in this order. -/
def each {E : Type → Type} : (n : ℕ) → (Fin n → Prog E PUnit) → Prog E PUnit
  | 0, _ => pure ⟨⟩
  | n + 1, f => f 0 >>= fun _ => each n (fun i => f i.succ)

/-! ### The buffers and the semaphores -/

/-- The staged columns of the left matrix. -/
abbrev xM : Memref sig .tc .vmem S4096x128 .f32 := Memref.whole cc0_stg0_0
/-- The right matrix, left in the large memory. -/
abbrev wM : Memref sig .tc .hbm S4096x8192 .f32 := Memref.whole main_arg1
/-- The staged result. -/
abbrev oM : Memref sig .tc .vmem S128x8192 .f32 := Memref.whole cc0_stg1_0
/-- The gathered rows of the left matrix, one column slot per device. -/
abbrev gM : Memref sig .tc .vmem S128x4096 .f32 := Memref.whole cc0_scratch0
/-- The two banks the right matrix is copied through. -/
abbrev bM : Memref sig .tc .vmem S2x512x8192 .f32 := Memref.whole cc0_scratch1
/-- The device's own maximum. -/
abbrev vM : Memref sig .tc .vmem S1x128 .f32 := Memref.whole cc0_scratch2
/-- The maxima of all devices, one row per device. -/
abbrev aM : Memref sig .tc .vmem S32x128 .f32 := Memref.whole cc0_scratch3

theorem inb_slot (s : Fin 32) : ∀ a, (![0, 128 * s.val] : Fin 2 → ℕ) a + S128x128.size a ≤ S128x4096.size a := by
  revert s; decide
theorem inb_part (b : Fin 2) (t : Fin 4) :
    ∀ a, (![b.val, 128 * t.val, 0] : Fin 3 → ℕ) a + S1x128x8192.size a ≤ S2x512x8192.size a := by
  revert b t; decide
theorem inb_sem (s : Fin 32) : ∀ a, (![s.val] : Fin 1 → ℕ) a + S1.size a ≤ S32.size a := by
  revert s; decide
theorem inb_wsem (b : Fin 2) (t : Fin 4) : ∀ a, (![b.val, t.val] : Fin 2 → ℕ) a + S1x1.size a ≤ S2x4.size a := by
  revert b t; decide
theorem inb_panel (g : Fin 8) : ∀ a, (![0, 512 * g.val] : Fin 2 → ℕ) a + S128x512.size a ≤ S128x4096.size a := by
  revert g; decide
theorem inb_bank (b : Fin 2) : ∀ a, (![b.val, 0, 0] : Fin 3 → ℕ) a + S1x512x8192.size a ≤ S2x512x8192.size a := by
  revert b; decide

/-- Column slot `s` of the gathered rows. -/
def slotM (s : Fin 32) : Memref sig .tc .vmem S128x128 .f32 :=
  gM.slice (Rect.unit (s := S128x4096) ![0, 128 * s.val] S128x128.size (inb_slot s)) (fun _ => rfl)
/-- Part `t` of bank `b`. -/
def partM (b : Fin 2) (t : Fin 4) : Memref sig .tc .vmem S128x8192 .f32 :=
  (bM.slice (Rect.unit (s := S2x512x8192) ![b.val, 128 * t.val, 0] S1x128x8192.size (inb_part b t)) (fun _ => rfl)).squeeze
    S128x8192 squeezes_S1x128x8192_S128x8192
/-- The row block of the right matrix that device `d` copies at step `r`. -/
def wrowM (d : Dev nD) (r : Fin 32) : Memref sig .tc .hbm S128x8192 .f32 :=
  wM.slice (Rect.unit (s := S4096x8192) (k0_off1 d (BitVec.ofNat 32 r.val)) S128x8192.size (k0_off1_inb d r)) (fun _ => rfl)
/-- The row block of the left matrix that device `d` sends at step `i`. -/
def xrowM (d : Dev nD) (i : Fin 31) : Memref sig .tc .vmem S128x128 .f32 :=
  xM.slice (Rect.unit (s := S4096x128) (k0_off3 d (BitVec.ofNat 32 (1 + i.val))) S128x128.size (k0_off3_inb d i)) (fun _ => rfl)
/-- The row of the maxima that belongs to device `d`. -/
def ownRowM (d : Dev nD) : Memref sig .tc .vmem S1x128 .f32 :=
  aM.slice (Rect.unit (s := S32x128) (k0_off6 d) S1x128.size (k0_off6_inb d)) (fun _ => rfl)
/-- The row of the maxima that device `d` awaits at step `i`. -/
def peerRowM (d : Dev nD) (i : Fin 31) : Memref sig .tc .vmem S1x128 .f32 :=
  aM.slice (Rect.unit (s := S32x128) (k0_off8 d (BitVec.ofNat 32 (1 + i.val))) S1x128.size (k0_off8_inb d i)) (fun _ => rfl)

/-- The semaphore of part `t` of bank `b`. -/
def wSem (b : Fin 2) (t : Fin 4) : DmaSem sig :=
  ((cc0_scratch4.slice (Rect.unit (s := S2x4) ![b.val, t.val] S1x1.size (inb_wsem b t))).squeeze S_ squeezes_S1x1_S_).sem
/-- The semaphore counting the departure of block send `s`. -/
def sSem (s : Fin 32) : DmaSem sig :=
  ((cc0_scratch5.slice (Rect.unit (s := S32) ![s.val] S1.size (inb_sem s))).squeeze S_ squeezes_S1_S_).sem
/-- The semaphore counting the arrival in slot `s`. -/
def rSem (s : Fin 32) : DmaSem sig :=
  ((cc0_scratch6.slice (Rect.unit (s := S32) ![s.val] S1.size (inb_sem s))).squeeze S_ squeezes_S1_S_).sem
/-- The semaphore counting the departure of device `d`'s maximum at step `i`. -/
def asSem (d : Dev nD) (i : Fin 31) : DmaSem sig :=
  ((cc0_scratch7.slice (Rect.unit (s := S32) (k0_off4 d (BitVec.ofNat 32 (1 + i.val))) S1.size (k0_off4_inb d i))).squeeze S_ squeezes_S1_S_).sem
/-- The semaphore counting the arrival of device `d`'s maximum at another device. -/
def arOwn (d : Dev nD) : DmaSem sig :=
  ((cc0_scratch8.slice (Rect.unit (s := S32) (k0_off5 d) S1.size (k0_off5_inb d))).squeeze S_ squeezes_S1_S_).sem
/-- The semaphore device `d` waits on at step `i` for another device's maximum. -/
def arSem (d : Dev nD) (i : Fin 31) : DmaSem sig :=
  ((cc0_scratch8.slice (Rect.unit (s := S32) (k0_off4 d (BitVec.ofNat 32 (1 + i.val))) S1.size (k0_off4_inb d i))).squeeze S_ squeezes_S1_S_).sem
/-- The barrier semaphore. -/
def barSem : Sem sig := (SemArray.scalar (sig.barrier 0 rfl) : Sems sig S_).sem

/-! ### The devices addressed -/

/-- The device signalled at step `i`. -/
def sigDev : Fin 31 → Dev nD → Dev nD := ![
    fun d => ⟨k0_dev1 d, k0_dev1_lt d⟩,
    fun d => ⟨k0_dev2 d, k0_dev2_lt d⟩,
    fun d => ⟨k0_dev3 d, k0_dev3_lt d⟩,
    fun d => ⟨k0_dev4 d, k0_dev4_lt d⟩,
    fun d => ⟨k0_dev5 d, k0_dev5_lt d⟩,
    fun d => ⟨k0_dev6 d, k0_dev6_lt d⟩,
    fun d => ⟨k0_dev7 d, k0_dev7_lt d⟩,
    fun d => ⟨k0_dev8 d, k0_dev8_lt d⟩,
    fun d => ⟨k0_dev9 d, k0_dev9_lt d⟩,
    fun d => ⟨k0_dev10 d, k0_dev10_lt d⟩,
    fun d => ⟨k0_dev11 d, k0_dev11_lt d⟩,
    fun d => ⟨k0_dev12 d, k0_dev12_lt d⟩,
    fun d => ⟨k0_dev13 d, k0_dev13_lt d⟩,
    fun d => ⟨k0_dev14 d, k0_dev14_lt d⟩,
    fun d => ⟨k0_dev15 d, k0_dev15_lt d⟩,
    fun d => ⟨k0_dev16 d, k0_dev16_lt d⟩,
    fun d => ⟨k0_dev17 d, k0_dev17_lt d⟩,
    fun d => ⟨k0_dev18 d, k0_dev18_lt d⟩,
    fun d => ⟨k0_dev19 d, k0_dev19_lt d⟩,
    fun d => ⟨k0_dev20 d, k0_dev20_lt d⟩,
    fun d => ⟨k0_dev21 d, k0_dev21_lt d⟩,
    fun d => ⟨k0_dev22 d, k0_dev22_lt d⟩,
    fun d => ⟨k0_dev23 d, k0_dev23_lt d⟩,
    fun d => ⟨k0_dev24 d, k0_dev24_lt d⟩,
    fun d => ⟨k0_dev25 d, k0_dev25_lt d⟩,
    fun d => ⟨k0_dev26 d, k0_dev26_lt d⟩,
    fun d => ⟨k0_dev27 d, k0_dev27_lt d⟩,
    fun d => ⟨k0_dev28 d, k0_dev28_lt d⟩,
    fun d => ⟨k0_dev29 d, k0_dev29_lt d⟩,
    fun d => ⟨k0_dev30 d, k0_dev30_lt d⟩,
    fun d => ⟨k0_dev31 d, k0_dev31_lt d⟩]
/-- The device a block is sent to at step `i`. -/
def sendDev : Fin 31 → Dev nD → Dev nD := ![
    fun d => ⟨k0_dev32 d, k0_dev32_lt d⟩,
    fun d => ⟨k0_dev33 d, k0_dev33_lt d⟩,
    fun d => ⟨k0_dev34 d, k0_dev34_lt d⟩,
    fun d => ⟨k0_dev35 d, k0_dev35_lt d⟩,
    fun d => ⟨k0_dev36 d, k0_dev36_lt d⟩,
    fun d => ⟨k0_dev37 d, k0_dev37_lt d⟩,
    fun d => ⟨k0_dev38 d, k0_dev38_lt d⟩,
    fun d => ⟨k0_dev39 d, k0_dev39_lt d⟩,
    fun d => ⟨k0_dev40 d, k0_dev40_lt d⟩,
    fun d => ⟨k0_dev41 d, k0_dev41_lt d⟩,
    fun d => ⟨k0_dev42 d, k0_dev42_lt d⟩,
    fun d => ⟨k0_dev43 d, k0_dev43_lt d⟩,
    fun d => ⟨k0_dev44 d, k0_dev44_lt d⟩,
    fun d => ⟨k0_dev45 d, k0_dev45_lt d⟩,
    fun d => ⟨k0_dev46 d, k0_dev46_lt d⟩,
    fun d => ⟨k0_dev47 d, k0_dev47_lt d⟩,
    fun d => ⟨k0_dev48 d, k0_dev48_lt d⟩,
    fun d => ⟨k0_dev49 d, k0_dev49_lt d⟩,
    fun d => ⟨k0_dev50 d, k0_dev50_lt d⟩,
    fun d => ⟨k0_dev51 d, k0_dev51_lt d⟩,
    fun d => ⟨k0_dev52 d, k0_dev52_lt d⟩,
    fun d => ⟨k0_dev53 d, k0_dev53_lt d⟩,
    fun d => ⟨k0_dev54 d, k0_dev54_lt d⟩,
    fun d => ⟨k0_dev55 d, k0_dev55_lt d⟩,
    fun d => ⟨k0_dev56 d, k0_dev56_lt d⟩,
    fun d => ⟨k0_dev57 d, k0_dev57_lt d⟩,
    fun d => ⟨k0_dev58 d, k0_dev58_lt d⟩,
    fun d => ⟨k0_dev59 d, k0_dev59_lt d⟩,
    fun d => ⟨k0_dev60 d, k0_dev60_lt d⟩,
    fun d => ⟨k0_dev61 d, k0_dev61_lt d⟩,
    fun d => ⟨k0_dev62 d, k0_dev62_lt d⟩]
/-- The device the maximum is sent to at step `i`. -/
def maxDev : Fin 31 → Dev nD → Dev nD := ![
    fun d => ⟨k0_dev63 d, k0_dev63_lt d⟩,
    fun d => ⟨k0_dev64 d, k0_dev64_lt d⟩,
    fun d => ⟨k0_dev65 d, k0_dev65_lt d⟩,
    fun d => ⟨k0_dev66 d, k0_dev66_lt d⟩,
    fun d => ⟨k0_dev67 d, k0_dev67_lt d⟩,
    fun d => ⟨k0_dev68 d, k0_dev68_lt d⟩,
    fun d => ⟨k0_dev69 d, k0_dev69_lt d⟩,
    fun d => ⟨k0_dev70 d, k0_dev70_lt d⟩,
    fun d => ⟨k0_dev71 d, k0_dev71_lt d⟩,
    fun d => ⟨k0_dev72 d, k0_dev72_lt d⟩,
    fun d => ⟨k0_dev73 d, k0_dev73_lt d⟩,
    fun d => ⟨k0_dev74 d, k0_dev74_lt d⟩,
    fun d => ⟨k0_dev75 d, k0_dev75_lt d⟩,
    fun d => ⟨k0_dev76 d, k0_dev76_lt d⟩,
    fun d => ⟨k0_dev77 d, k0_dev77_lt d⟩,
    fun d => ⟨k0_dev78 d, k0_dev78_lt d⟩,
    fun d => ⟨k0_dev79 d, k0_dev79_lt d⟩,
    fun d => ⟨k0_dev80 d, k0_dev80_lt d⟩,
    fun d => ⟨k0_dev81 d, k0_dev81_lt d⟩,
    fun d => ⟨k0_dev82 d, k0_dev82_lt d⟩,
    fun d => ⟨k0_dev83 d, k0_dev83_lt d⟩,
    fun d => ⟨k0_dev84 d, k0_dev84_lt d⟩,
    fun d => ⟨k0_dev85 d, k0_dev85_lt d⟩,
    fun d => ⟨k0_dev86 d, k0_dev86_lt d⟩,
    fun d => ⟨k0_dev87 d, k0_dev87_lt d⟩,
    fun d => ⟨k0_dev88 d, k0_dev88_lt d⟩,
    fun d => ⟨k0_dev89 d, k0_dev89_lt d⟩,
    fun d => ⟨k0_dev90 d, k0_dev90_lt d⟩,
    fun d => ⟨k0_dev91 d, k0_dev91_lt d⟩,
    fun d => ⟨k0_dev92 d, k0_dev92_lt d⟩,
    fun d => ⟨k0_dev93 d, k0_dev93_lt d⟩]

/-! ### The operations -/

/-- Starts the copy of step `4g+t` into bank `b`. -/
def wCopy (d : Dev nD) (b : Fin 2) (r : Fin 32) (t : Fin 4) : Prog (TpuEff nD τ sig (Elt F) Λ₀ .tc) PUnit :=
  Prog.lift (.enqueueDma (wrowM d r) (.here (partM b t)) (.dma (wSem b t)) (View.wordExact_bits rfl)
    ((View.wordExact_bits rfl).reshape _ _) ⟨Or.inl rfl, trivial⟩)
/-- Awaits that copy. -/
def wWait (d : Dev nD) (b : Fin 2) (r : Fin 32) (t : Fin 4) : Prog (TpuEff nD τ sig (Elt F) Λ₀ .tc) PUnit :=
  Prog.lift (.waitDma2 (wSem b t) (wrowM d r) (partM b t) (View.wordExact_bits rfl) ((View.wordExact_bits rfl).reshape _ _))
/-- Step `4g+t`. -/
def stepOf (g : Fin 8) (t : Fin 4) : Fin 32 := ⟨4 * g.val + t.val, by omega⟩
/-- The bank of group `g`. -/
def bankOf (g : Fin 8) : Fin 2 := ⟨g.val % 2, by omega⟩
/-- Starts the four copies of group `g`. -/
def wCopies (d : Dev nD) (g : Fin 8) : Prog (TpuEff nD τ sig (Elt F) Λ₀ .tc) PUnit := each 4 fun t => wCopy d (bankOf g) (stepOf g t) t
/-- Awaits the four copies of group `g`. -/
def wWaits (d : Dev nD) (g : Fin 8) : Prog (TpuEff nD τ sig (Elt F) Λ₀ .tc) PUnit := each 4 fun t => wWait d (bankOf g) (stepOf g t) t

/-- Puts the device's own block into slot 0. -/
def ownBlock (d : Dev nD) : Prog (TpuEff nD τ sig (Elt F) Λ₀ .tc) PUnit := do
  let v : Vec F S128x128 .f32 ← Prog.lift (.load xM (Rect.unit (s := S4096x128) (k0_off2 d) S128x128.size (k0_off2_inb d)).toLoadRect (View.loadsAt_vmem h_S128x128))
  let _ : Vec F S128x128 .f32 ← Prog.lift (.load gM (Rect.unit (s := S128x4096) ![0, 0] S128x128.size inb_S128x4096_S128x128_0_0).toLoadRect (View.loadsAt_vmem h_S128x128))
  Prog.lift (.store gM (Rect.unit (s := S128x4096) ![0, 0] S128x128.size inb_S128x4096_S128x128_0_0) (k0_pay1 v) Finset.univ (View.stores_vmem_bits_univ h_S128x128 rfl) (.inl rfl))

/-- Signals the barrier of the device of step `i`. -/
def signal (d : Dev nD) (i : Fin 31) : Prog (TpuEff nD τ sig (Elt F) Λ₀ .tc) PUnit := semSignalWord (sigDev i d) barSem 1#32
/-- Waits for the signals of all others. -/
def barWait : Prog (TpuEff nD τ sig (Elt F) Λ₀ .tc) PUnit := semWaitWord barSem 31#32

/-- Sends the block of step `i`. -/
def send (d : Dev nD) (i : Fin 31) : Prog (TpuEff nD τ sig (Elt F) Λ₀ .tc) PUnit :=
  Prog.lift (.enqueueDma (xrowM d i) (.remote (Dev.tc (sendDev i d)) (slotM i.succ) (.dma (sSem i.succ))) (.dma (rSem i.succ))
    (View.wordExact_bits rfl) (View.wordExact_bits rfl) ⟨⟨rfl, Or.inl rfl⟩, trivial⟩)
/-- Awaits the arrival in slot `s`. -/
def recvWait (s : Fin 32) : Prog (TpuEff nD τ sig (Elt F) Λ₀ .tc) PUnit :=
  Prog.lift (.waitDma2 (rSem s) (xM.slice (Rect.unit (s := S4096x128) ![0, 0] S128x128.size inb_S4096x128_S128x128_0_0) (fun _ => rfl))
    (slotM s) (View.wordExact_bits rfl) (View.wordExact_bits rfl))
/-- Awaits the departure of block send `i`. -/
def sendWait (d : Dev nD) (i : Fin 31) : Prog (TpuEff nD τ sig (Elt F) Λ₀ .tc) PUnit :=
  Prog.lift (.waitDma2 (sSem i.succ) (slotM i.succ) (xrowM d i) (View.wordExact_bits rfl) (View.wordExact_bits rfl))

/-- Loads panel `g` of the gathered rows. -/
def loadPanel (g : Fin 8) : Prog (TpuEff nD τ sig (Elt F) Λ₀ .tc) (Vec F S128x512 .f32) :=
  Prog.lift (.load gM (Rect.unit (s := S128x4096) ![0, 512 * g.val] S128x512.size (inb_panel g)).toLoadRect (View.loadsAt_vmem h_S128x512))
/-- Loads bank `b`. -/
def loadBank (b : Fin 2) : Prog (TpuEff nD τ sig (Elt F) Λ₀ .tc) (Vec F S1x512x8192 .f32) :=
  Prog.lift (.load bM (Rect.unit (s := S2x512x8192) ![b.val, 0, 0] S1x512x8192.size (inb_bank b)).toLoadRect (View.loadsAt_vmem h_S1x512x8192))
/-- Loads the result so far. -/
def loadOut : Prog (TpuEff nD τ sig (Elt F) Λ₀ .tc) (Vec F S128x8192 .f32) :=
  Prog.lift (.load oM (Rect.unit (s := S128x8192) ![0, 0] S128x8192.size inb_S128x8192_S128x8192_0_0).toLoadRect (View.loadsAt_vmem h_S128x8192))
/-- Stores the result so far. -/
def storeOut (v : FVec F S128x8192 .f32) : Prog (TpuEff nD τ sig (Elt F) Λ₀ .tc) PUnit :=
  Prog.lift (.store oM (Rect.unit (s := S128x8192) ![0, 0] S128x8192.size inb_S128x8192_S128x8192_0_0) v Finset.univ (View.stores_vmem_bits_univ h_S128x8192 rfl) (.inl rfl))

/-- Group 0: its copies and arrivals, and the first product into the result. -/
def group0 (d : Dev nD) : Prog (TpuEff nD τ sig (Elt F) Λ₀ .tc) PUnit := do
  wWaits d 0
  each 3 fun t => recvWait ⟨t.val + 1, by omega⟩
  let xv ← loadPanel 0
  let wv ← loadBank 0
  let _ ← loadOut
  storeOut (k0_pay2 xv wv)
/-- A later group: its copies and arrivals, and its product added to the result. -/
def group (d : Dev nD) (g : Fin 8) : Prog (TpuEff nD τ sig (Elt F) Λ₀ .tc) PUnit := do
  wWaits d g
  each 4 fun t => recvWait (stepOf g t)
  let xv ← loadPanel g
  let wv ← loadBank (bankOf g)
  let ov ← loadOut
  let _ ← loadOut
  storeOut (k0_pay3 xv wv ov)

/-- Group `g+1`. -/
def mid (g : Fin 5) : Fin 8 := ⟨g.val + 1, by omega⟩
/-- Group `g+3`. -/
def ahead (g : Fin 5) : Fin 8 := ⟨g.val + 3, by omega⟩

/-- Clamps the result below at zero and stores its maximum. -/
def relu : Prog (TpuEff nD τ sig (Elt F) Λ₀ .tc) PUnit := do
  let ov ← loadOut
  let _ ← loadOut
  storeOut (k0_pay11 ov)
  let _ : Vec F S1x128 .f32 ← Prog.lift (.load vM (Rect.unit (s := S1x128) ![0, 0] S1x128.size inb_S1x128_S1x128_0_0).toLoadRect (View.loadsAt_vmem h_S1x128))
  Prog.lift (.store vM (Rect.unit (s := S1x128) ![0, 0] S1x128.size inb_S1x128_S1x128_0_0) (k0_pay12 ov) Finset.univ (View.stores_vmem_bits_univ h_S1x128 rfl) (.inl rfl))

/-- Sends the maximum to the device of step `i`. -/
def maxSend (d : Dev nD) (i : Fin 31) : Prog (TpuEff nD τ sig (Elt F) Λ₀ .tc) PUnit :=
  Prog.lift (.enqueueDma vM (.remote (Dev.tc (maxDev i d)) (ownRowM d) (.dma (asSem d i))) (.dma (arOwn d))
    (Memref.isWhole_whole cc0_scratch2).wordExact (View.wordExact_bits rfl) ⟨⟨rfl, Or.inl rfl⟩, trivial⟩)
/-- Awaits the maximum of step `i`. -/
def maxRecv (d : Dev nD) (i : Fin 31) : Prog (TpuEff nD τ sig (Elt F) Λ₀ .tc) PUnit :=
  Prog.lift (.waitDma2 (arSem d i) vM (peerRowM d i) (Memref.isWhole_whole cc0_scratch2).wordExact (View.wordExact_bits rfl))
/-- Awaits the departure of the maximum of step `i`. -/
def maxSendWait (d : Dev nD) (i : Fin 31) : Prog (TpuEff nD τ sig (Elt F) Λ₀ .tc) PUnit :=
  Prog.lift (.waitDma2 (asSem d i) (ownRowM d) vM (View.wordExact_bits rfl) (Memref.isWhole_whole cc0_scratch2).wordExact)
/-- Puts the device's own maximum into its own row. -/
def ownMax (d : Dev nD) : Prog (TpuEff nD τ sig (Elt F) Λ₀ .tc) PUnit := do
  let v : Vec F S1x128 .f32 ← Prog.lift (.load vM (Rect.unit (s := S1x128) ![0, 0] S1x128.size inb_S1x128_S1x128_0_0).toLoadRect (View.loadsAt_vmem h_S1x128))
  let _ : Vec F S1x128 .f32 ← Prog.lift (.load aM (Rect.unit (s := S32x128) (k0_off7 d) S1x128.size (k0_off7_inb d)).toLoadRect (View.loadsAt_vmem h_S1x128))
  Prog.lift (.store aM (Rect.unit (s := S32x128) (k0_off7 d) S1x128.size (k0_off7_inb d)) (k0_pay13 v) Finset.univ (View.stores_vmem_bits_univ h_S1x128 rfl) (.inl rfl))
/-- Rounds the result to the scale given by the greatest maximum. -/
def quant : Prog (TpuEff nD τ sig (Elt F) Λ₀ .tc) PUnit := do
  let av : Vec F S32x128 .f32 ← Prog.lift (.load aM (Rect.unit (s := S32x128) ![0, 0] S32x128.size inb_S32x128_S32x128_0_0).toLoadRect (View.loadsAt_vmem h_S32x128))
  let ov ← loadOut
  let _ ← loadOut
  storeOut (k0_pay15 (k0_pay14 av) ov)

/-- The first part: copies started, own block, barrier, blocks sent. -/
def opening (d : Dev nD) : Prog (TpuEff nD τ sig (Elt F) Λ₀ .tc) PUnit := do
  wCopies d 0
  wCopies d 1
  ownBlock d
  each 31 (signal d)
  barWait
  each 31 (send d)
/-- The second part: the eight products. -/
def products (d : Dev nD) : Prog (TpuEff nD τ sig (Elt F) Λ₀ .tc) PUnit := do
  group0 d
  wCopies d 2
  each 5 fun g => do
    group d (mid g)
    wCopies d (ahead g)
  group d 6
  group d 7
/-- The third part: maxima exchanged, all transfers awaited, the result rounded. -/
def closing (d : Dev nD) : Prog (TpuEff nD τ sig (Elt F) Λ₀ .tc) PUnit := do
  relu
  each 31 (maxSend d)
  ownMax d
  each 31 (sendWait d)
  each 31 (maxRecv d)
  quant
  each 31 (maxSendWait d)

/-- The whole body. -/
def prog : Prog (TpuEff nD τ sig (Elt F) Λ₀ .tc) PUnit := do
  let d : Dev nD ← Prog.lift .deviceId
  opening d
  products d
  closing d

/-- The printed body is the loop form. -/
theorem body_eq_prog :
    cc0__body (F := F) xM (Memref.isWhole_whole _) wM (Memref.isWhole_whole _) oM (Memref.isWhole_whole _) gM (Memref.isWhole_whole _)
      bM (Memref.isWhole_whole _) vM (Memref.isWhole_whole _) aM (Memref.isWhole_whole _)
      cc0_scratch4 cc0_scratch5 cc0_scratch6 cc0_scratch7 cc0_scratch8 = prog := by
  chain_rfl

end Cert.Ring

end
-- ==== Proof.Common.lean ====
/- What the run's proof shares: the devices' arithmetic, the semaphores by name, the sets of elements the slices name,
   and the contents the buffers go through. -/
module

public import proofs.«01_k».proof.Proof.Body
public import Idealize.ShloMosaic.Lib.Pipeline.Launch
public import Idealize.ShloMosaic.Lib.Pipeline.Kit
public import Idealize.ShloMosaic.Lib.Pipeline.ValueKit.Geometry
public import Idealize.ShloMosaic.Lib.ValueLayout
public import Idealize.ShloMosaic.Lib.Tactic
public import Idealize.ShloMosaic.Lib.Transfers

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-- The exchange's ghost state: rounds of cells, at most 31 contributions to a round. -/
abbrev UB : Type := URounds (GSem nD τ sig) (Fin 31)
/-- The pipeline's ghost state beside the exchange's. -/
abbrev UU : Type := UR sig nD τ × UB

local notation "𝕄" => MT nD τ sig Unit (Elt F) ℕ UU ℕ

/-- Where the pipeline's ghost state lives. -/
abbrev EP : Emb (UR sig nD τ) (MT nD τ sig Unit (Elt F) ℕ UU ℕ) := embL
/-- Where the exchange's ghost state lives. -/
abbrev ER : Emb UB (MT nD τ sig Unit (Elt F) ℕ UU ℕ) := embR

/-! ### Devices, counted around the ring -/

/-- The device `i+1` places after `c`. -/
def fwd (c : Dev nD) (i : Fin 31) : Dev nD := ⟨(c.val + i.val + 1) % 32, Nat.mod_lt _ (by decide)⟩
/-- The device `i+1` places before `c`. -/
def bwd (c : Dev nD) (i : Fin 31) : Dev nD := ⟨(c.val + 31 - i.val) % 32, Nat.mod_lt _ (by decide)⟩
/-- The device `n` places after `c`. -/
def plus (c : Dev nD) (n : ℕ) : Dev nD := ⟨(c.val + n) % 32, Nat.mod_lt _ (by decide)⟩

theorem fwd_bwd (c : Dev nD) (i : Fin 31) : fwd (bwd c i) i = c := by revert c i; decide +kernel
theorem bwd_fwd (c : Dev nD) (i : Fin 31) : bwd (fwd c i) i = c := by revert c i; decide +kernel
theorem fwd_ne (c : Dev nD) (i : Fin 31) : fwd c i ≠ c := by revert c i; decide +kernel
theorem bwd_ne (c : Dev nD) (i : Fin 31) : bwd c i ≠ c := by revert c i; decide +kernel
theorem fwd_rev (c : Dev nD) (i : Fin 31) : fwd c i.rev = bwd c i := by revert c i; decide +kernel
theorem bwd_rev (c : Dev nD) (i : Fin 31) : bwd c i.rev = fwd c i := by revert c i; decide +kernel
theorem fwd_inj {c : Dev nD} {i j : Fin 31} (h : fwd c i = fwd c j) : i = j := by revert c i j; decide +kernel
theorem bwd_plus (c : Dev nD) (i : Fin 31) : plus (bwd c i) i.succ.val = c := by revert c i; decide +kernel
theorem plus_zero (c : Dev nD) : plus c 0 = c := by revert c; decide +kernel
theorem plus_fin (c : Dev nD) (i : Fin 31) : plus c i.succ.val = fwd c i := by revert c i; decide +kernel

theorem sigDev_eq (c : Dev nD) (i : Fin 31) : sigDev i c = fwd c i := by revert c i; decide +kernel
theorem sendDev_eq (c : Dev nD) (i : Fin 31) : sendDev i c = bwd c i := by revert c i; decide +kernel
theorem maxDev_eq (c : Dev nD) (i : Fin 31) : maxDev i c = fwd c i := by revert c i; decide +kernel

/-! ### The semaphores by name -/

/-- The exchange's semaphores of one device: the barrier, the eight of the right matrix's parts, and four families of 32
    (blocks sent, blocks received, maxima sent, maxima received). -/
abbrev Key : Type := Unit ⊕ ((Fin 2 × Fin 4) ⊕ (Fin 4 × Fin 32))
/-- The barrier. -/
@[match_pattern] abbrev kBar : Key := .inl ()
/-- Part `t` of bank `b`. -/
@[match_pattern] abbrev kW (b : Fin 2) (t : Fin 4) : Key := .inr (.inl (b, t))
/-- Member `j` of family `n`. -/
@[match_pattern] abbrev kX (n : Fin 4) (j : Fin 32) : Key := .inr (.inr (n, j))

/-- The number of a semaphore of the kernel's own: the parts first, then the families in turn. -/
def ownNum : (Fin 2 × Fin 4) ⊕ (Fin 4 × Fin 32) → Fin 136
  | .inl (b, t) => ⟨4 * b.val + t.val, by omega⟩
  | .inr (n, j) => ⟨8 + 32 * n.val + j.val, by omega⟩
/-- The kernel's own semaphores, as the launch numbers them. -/
def osem (k : Fin 136) : SemLoc sig := .dma ⟨k.val + 2, by have := k.isLt; show k.val + 2 < 138; omega⟩
/-- The semaphore of a name. -/
def sem : Key → SemLoc sig
  | .inl _ => .reg barSem
  | .inr k => osem (ownNum k)
/-- The name of a semaphore, if it has one. -/
def keyOf : SemLoc sig → Option Key
  | .reg _ => some kBar
  | .dma q =>
    if q.val < 2 then none
    else if q.val < 10 then some (kW ⟨(q.val - 2) / 4 % 2, by omega⟩ ⟨(q.val - 2) % 4, by omega⟩)
    else some (kX ⟨(q.val - 10) / 32 % 4, by omega⟩ ⟨(q.val - 10) % 32, by omega⟩)

theorem keyOf_sem (k : Key) : keyOf (sem k) = some k := by
  rcases k with ⟨⟩ | ⟨b, t⟩ | ⟨n, j⟩
  · rfl
  · revert b t; decide +kernel
  · revert n j; decide +kernel
theorem sem_inj : Function.Injective sem := fun a b h => Option.some.inj (by rw [← keyOf_sem a, ← keyOf_sem b, h])

theorem wSem_eq (b : Fin 2) (t : Fin 4) : (.dma (wSem b t) : SemLoc sig) = sem (kW b t) := by revert b t; decide +kernel
theorem sSem_eq (s : Fin 32) : (.dma (sSem s) : SemLoc sig) = sem (kX 0 s) := by revert s; decide +kernel
theorem rSem_eq (s : Fin 32) : (.dma (rSem s) : SemLoc sig) = sem (kX 1 s) := by revert s; decide +kernel
theorem asSem_eq (c : Dev nD) (i : Fin 31) : (.dma (asSem c i) : SemLoc sig) = sem (kX 2 (fwd c i)) := by
  revert c i; decide +kernel
theorem arOwn_eq (c : Dev nD) : (.dma (arOwn c) : SemLoc sig) = sem (kX 3 c) := by revert c; decide +kernel
theorem arSem_eq (c : Dev nD) (i : Fin 31) : (.dma (arSem c i) : SemLoc sig) = sem (kX 3 (fwd c i)) := by
  revert c i; decide +kernel

/-- The cell of a name on device `c`. -/
def cell (c : Dev nD) (k : Key) : GSem nD τ sig := ((c : Thread nD τ), sem k)

theorem cell_inj {c c' : Dev nD} {k k' : Key} (h : cell c k = cell c' k') : c = c' ∧ k = k' :=
  ⟨congrArg (fun g : GSem nD τ sig => g.1.1) h, sem_inj (congrArg Prod.snd h)⟩

/-! ### Splitting a buffer into parts -/

omit [FloatOps F] in
/-- A set held at one content is its parts, each held at that content. -/
theorem pts_parts {ℓ : Loc nD τ sig} {T : Type} [Fintype T] [DecidableEq T] {q : PosShare TreeShare} (f : Buf (Elt F) ℓ)
    {S : Finset (Idx ℓ)} {K : T → Finset (Idx ℓ)} (hS : ∀ i, i ∈ S ↔ ∃ t, i ∈ K t)
    (hd : ∀ t t' i, i ∈ K t → i ∈ K t' → t = t') :
    (ℓ ↦[S]{q} f : sProp 𝕄) = bigSep Finset.univ fun t => ℓ ↦[K t]{q} f := by
  classical
  rw [← pointsTo_biUnion Finset.univ K fun t _ t' _ h =>
    Finset.disjoint_left.2 fun i hi hi' => h (hd t t' i hi hi')]
  congr 1
  ext i
  rw [hS, Finset.mem_biUnion]
  exact ⟨fun ⟨t, h⟩ => ⟨t, Finset.mem_univ t, h⟩, fun ⟨t, _, h⟩ => ⟨t, h⟩⟩

omit [FloatOps F] in
/-- Parts held at contents of their own make the set, held at some content. -/
theorem pts_join {ℓ : Loc nD τ sig} {T : Type} [Fintype T] [DecidableEq T] [Nonempty T] {q : PosShare TreeShare}
    {S : Finset (Idx ℓ)} {K : T → Finset (Idx ℓ)} (hS : ∀ i, i ∈ S ↔ ∃ t, i ∈ K t)
    (hd : ∀ t t' i, i ∈ K t → i ∈ K t' → t = t') (f : T → Buf (Elt F) ℓ) :
    (bigSep Finset.univ fun t => (ℓ ↦[K t]{q} f t : sProp 𝕄)) ⊢ iprop(∃ g, ℓ ↦[S]{q} g) := by
  classical
  have hU : Finset.univ.biUnion K = S := by
    ext i
    rw [hS, Finset.mem_biUnion]
    exact ⟨fun ⟨t, _, h⟩ => ⟨t, h⟩, fun ⟨t, h⟩ => ⟨t, Finset.mem_univ t, h⟩⟩
  refine (pointsTo_biUnion_join Finset.univ K f (f (Classical.arbitrary T)) fun t _ t' _ h =>
    Finset.disjoint_left.2 fun i hi hi' => h (hd t t' i hi hi')).trans ?_
  rw [hU]
  iintro ⟨%g, -, H⟩
  iexists g
  iexact H

/-! ### The elements a slice names -/

/-- Column block `s` of the gathered rows. -/
def slotSet (s : Fin 32) : Finset S128x4096.Idx := Finset.univ.filter fun i => (i 1).val / 128 = s.val
/-- Part `t` of bank `b`. -/
def partSet (b : Fin 2) (t : Fin 4) : Finset S2x512x8192.Idx :=
  Finset.univ.filter fun i => (i 0).val = b.val ∧ (i 1).val / 128 = t.val
/-- The rows of the right matrix that belong to device `j`. -/
def wSet (j : Fin 32) : Finset S4096x8192.Idx := Finset.univ.filter fun i => (i 0).val / 128 = j.val
/-- The rows of the staged columns that belong to device `j`. -/
def xSet (j : Fin 32) : Finset S4096x128.Idx := Finset.univ.filter fun i => (i 0).val / 128 = j.val
/-- Row `j` of the maxima. -/
def rowSet (j : Fin 32) : Finset S32x128.Idx := Finset.univ.filter fun i => (i 0).val = j.val
/-- Bank `b`. -/
def bankSet (b : Fin 2) : Finset S2x512x8192.Idx := Finset.univ.filter fun i => (i 0).val = b.val

/-- A rectangle of a matrix, by its corner and its sizes. -/
theorem mem_rect {A B : ℕ} {off sz : Fin 2 → ℕ} (inb) {a b : ℕ} (h : off = ![a, b]) (i : (⟨2, ![A, B]⟩ : Shape).Idx) :
    Iff (i ∈ (Rect.unit (s := ⟨2, ![A, B]⟩) off sz inb).set)
      ((a ≤ (i 0).val ∧ (i 0).val < a + sz 0) ∧ (b ≤ (i 1).val ∧ (i 1).val < b + sz 1)) := by
  subst h
  exact Rect.mem_set_unit.trans Fin.forall_fin_two

theorem slot_rect (s : Fin 32) (inb) :
    (Rect.unit (s := S128x4096) ![0, 128 * s.val] S128x128.size inb).set = slotSet s := by
  ext i
  refine (mem_rect inb rfl i).trans ?_
  rw [slotSet, Finset.mem_filter]
  have h0 : (i 0).val < 128 := (i 0).isLt
  have e0 : S128x128.size 0 = 128 := rfl
  have e1 : S128x128.size 1 = 128 := rfl
  rw [e0, e1]
  constructor
  · intro h; exact ⟨Finset.mem_univ _, by omega⟩
  · intro ⟨_, h⟩; omega
theorem slot_set (s : Fin 32) : (slotM s).view.set = slotSet s := (View.set_slice_whole cc0_scratch0 _).trans (slot_rect s _)

theorem part_rect (b : Fin 2) (t : Fin 4) (inb) :
    (Rect.unit (s := S2x512x8192) ![b.val, 128 * t.val, 0] S1x128x8192.size inb).set = partSet b t := by
  ext i
  refine (Rect.mem_set_unit.trans (Fin.forall_fin_succ.trans (and_congr_right fun _ => Fin.forall_fin_two))).trans ?_
  rw [partSet, Finset.mem_filter]
  have h2 : (i 2).val < 8192 := (i 2).isLt
  show Iff ((b.val ≤ (i 0).val ∧ (i 0).val < b.val + 1) ∧ (128 * t.val ≤ (i 1).val ∧ (i 1).val < 128 * t.val + 128)
    ∧ (0 ≤ (i 2).val ∧ (i 2).val < 0 + 8192)) _
  constructor
  · intro h; exact ⟨Finset.mem_univ _, by omega⟩
  · intro ⟨_, h⟩; omega
theorem part_set (b : Fin 2) (t : Fin 4) : (partM b t).view.set = partSet b t :=
  (View.set_reshape _ _).trans ((View.set_slice_whole cc0_scratch1 _).trans (part_rect b t _))

theorem bank_rect (b : Fin 2) (inb) :
    (Rect.unit (s := S2x512x8192) ![b.val, 0, 0] S1x512x8192.size inb).set = bankSet b := by
  ext i
  refine (Rect.mem_set_unit.trans (Fin.forall_fin_succ.trans (and_congr_right fun _ => Fin.forall_fin_two))).trans ?_
  rw [bankSet, Finset.mem_filter]
  have h2 : (i 2).val < 8192 := (i 2).isLt
  have h1 : (i 1).val < 512 := (i 1).isLt
  show Iff ((b.val ≤ (i 0).val ∧ (i 0).val < b.val + 1) ∧ (0 ≤ (i 1).val ∧ (i 1).val < 0 + 512)
    ∧ (0 ≤ (i 2).val ∧ (i 2).val < 0 + 8192)) _
  constructor
  · intro h; exact ⟨Finset.mem_univ _, by omega⟩
  · intro ⟨_, h⟩; omega

theorem wrow_rect (c : Dev nD) (r : Fin 32) (inb) :
    (Rect.unit (s := S4096x8192) (k0_off1 c (BitVec.ofNat 32 r.val)) S128x8192.size inb).set = wSet (plus c r.val) := by
  ext i
  refine (mem_rect inb (k0_off1_eq c r) i).trans ?_
  rw [wSet, Finset.mem_filter]
  have h1 : (i 1).val < 8192 := (i 1).isLt
  have e0 : S128x8192.size 0 = 128 := rfl
  have e1 : S128x8192.size 1 = 8192 := rfl
  have ep : (plus c r.val).val = (c.val + r.val) % 32 := rfl
  rw [e0, e1, ep]
  constructor
  · intro h; exact ⟨Finset.mem_univ _, by omega⟩
  · intro ⟨_, h⟩; omega
theorem wrow_set (c : Dev nD) (r : Fin 32) : (wrowM c r).view.set = wSet (plus c r.val) :=
  (View.set_slice_whole main_arg1 _).trans (wrow_rect c r _)

theorem xrow_rect (c : Dev nD) (i : Fin 31) (inb) :
    (Rect.unit (s := S4096x128) (k0_off3 c (BitVec.ofNat 32 (1 + i.val))) S128x128.size inb).set = xSet (bwd c i) := by
  ext j
  refine (mem_rect inb (k0_off3_eq c i) j).trans ?_
  rw [xSet, Finset.mem_filter]
  have h1 : (j 1).val < 128 := (j 1).isLt
  have e0 : S128x128.size 0 = 128 := rfl
  have e1 : S128x128.size 1 = 128 := rfl
  have ep : (bwd c i).val = (c.val + 31 - i.val) % 32 := rfl
  rw [e0, e1, ep]
  constructor
  · intro h; exact ⟨Finset.mem_univ _, by omega⟩
  · intro ⟨_, h⟩; omega
theorem xrow_set (c : Dev nD) (i : Fin 31) : (xrowM c i).view.set = xSet (bwd c i) :=
  (View.set_slice_whole cc0_stg0_0 _).trans (xrow_rect c i _)

theorem row_rect (c : Dev nD) {off : Fin 2 → ℕ} (h : off = ![c.val, 0]) (inb) :
    (Rect.unit (s := S32x128) off S1x128.size inb).set = rowSet c := by
  ext j
  refine (mem_rect inb h j).trans ?_
  rw [rowSet, Finset.mem_filter]
  have h1 : (j 1).val < 128 := (j 1).isLt
  have e0 : S1x128.size 0 = 1 := rfl
  have e1 : S1x128.size 1 = 128 := rfl
  rw [e0, e1]
  constructor
  · intro h; exact ⟨Finset.mem_univ _, by omega⟩
  · intro ⟨_, h⟩; omega
theorem ownRow_set (c : Dev nD) : (ownRowM c).view.set = rowSet c :=
  (View.set_slice_whole cc0_scratch3 _).trans (row_rect c (k0_off6_eq c) _)

/-! ### Contents -/

section Contents

variable (m : (ℓ : Loc nD τ sig) → Buf (Elt F) ℓ)

/-- Device `c`'s columns of the left matrix, staged. -/
def xstg (c : Dev nD) : Vec F S4096x128 .f32 :=
  (win0_0.blk (0 : Fin 1)).view.read (Elt F) (m ((c : Thread nD τ).loc main_arg0))
/-- Device `c`'s copy of the right matrix. -/
def wArr (c : Dev nD) : Vec F S4096x8192 .f32 := m ((c : Thread nD τ).loc main_arg1)

/-- Device `c`'s rows of the left matrix, gathered: column block `s` comes from the device `s` places after it. -/
def gath (c : Dev nD) : Vec F S128x4096 .f32 := fun i =>
  xstg m (plus c ((i 1).val / 128))
    (ix2 ⟨128 * c.val + (i 0).val, by have hc : c.val < 32 := c.isLt; have h : (i 0).val < 128 := (i 0).isLt; omega⟩
      ⟨(i 1).val % 128, Nat.mod_lt _ (by decide)⟩)
/-- The right matrix's rows that group `g` of device `c` uses, as a bank. -/
def bank (c : Dev nD) (g : ℕ) : Vec F S2x512x8192 .f32 := fun i =>
  wArr m c (ix2 ⟨128 * (plus c (4 * g + (i 1).val / 128)).val + (i 1).val % 128, by
      have hc : (plus c (4 * g + (i 1).val / 128)).val < 32 := Fin.isLt _; have : (i 1).val % 128 < 128 := Nat.mod_lt _ (by decide); omega⟩ (i 2))

/-- The panel of the gathered rows that group `g` multiplies. -/
def panel (c : Dev nD) (g : ℕ) : Vec F S128x512 .f32 := fun i =>
  gath m c (ix2 (i 0) ⟨(512 * g + (i 1).val) % 4096, Nat.mod_lt _ (by decide)⟩)
/-- The bank that group `g` multiplies, as loaded. -/
def brick (c : Dev nD) (g : ℕ) : Vec F S1x512x8192 .f32 := fun i => bank m c g (ix3 (0 : Fin 2) (i 1) (i 2))

/-- The result after group `g`. -/
def outs (c : Dev nD) : ℕ → Vec F S128x8192 .f32
  | 0 => k0_pay2 (panel m c 0) (brick m c 0)
  | g + 1 => k0_pay3 (panel m c (g + 1)) (brick m c (g + 1)) (outs c g)
/-- The device's own maximum. -/
def vmax (c : Dev nD) : Vec F S1x128 .f32 := k0_pay12 (outs m c 7)
/-- The maxima of all devices. -/
def amax : Vec F S32x128 .f32 := fun i => vmax m ((i 0 : Fin 32) : Dev nD) (ix2 (0 : Fin 1) (i 1))
/-- The result. -/
def fin (c : Dev nD) : Vec F S128x8192 .f32 := k0_pay15 (k0_pay14 (amax m)) (k0_pay11 (outs m c 7))

end Contents

end Cert.Ring

end
-- ==== Proof.Sched.lean ====
/- The protocol: which contributions each semaphore receives, what each hands over, who owes what at launch, and the
   order in which the semaphores may be waited for. -/
module

public import proofs.«01_k».proof.Proof.Common

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type} [FloatOps F]

local notation "𝕄" => MT nD τ sig Unit (Elt F) ℕ UU ℕ

/-! ### The pieces that change hands -/

/-- Device `c`'s slot `s` at `f`. -/
def slotPts (c : Dev nD) (s : Fin 32) (f : Vec F S128x4096 .f32) : sProp 𝕄 :=
  ((c : Thread nD τ).loc cc0_scratch0) ↦[slotSet s]{fullShare} f
/-- Device `c`'s part `t` of bank `b` at `f`. -/
def partPts (c : Dev nD) (b : Fin 2) (t : Fin 4) (f : Vec F S2x512x8192 .f32) : sProp 𝕄 :=
  ((c : Thread nD τ).loc cc0_scratch1) ↦[partSet b t]{fullShare} f
/-- Device `c`'s row `j` of the maxima at `f`. -/
def rowPts (c : Dev nD) (j : Fin 32) (f : Vec F S32x128 .f32) : sProp 𝕄 :=
  ((c : Thread nD τ).loc cc0_scratch3) ↦[rowSet j]{fullShare} f
/-- Device `c`'s own maximum, at share `q`. -/
def vPts (c : Dev nD) (q : PosShare TreeShare) (f : Vec F S1x128 .f32) : sProp 𝕄 :=
  ((c : Thread nD τ).loc cc0_scratch2) ↦[Finset.univ]{q} f
/-- Device `c`'s staged rows for device `j`. -/
def xPts (c : Dev nD) (j : Fin 32) (f : Vec F S4096x128 .f32) : sProp 𝕄 :=
  ((c : Thread nD τ).loc cc0_stg0_0) ↦[xSet j]{fullShare} f
/-- Device `c`'s rows of the right matrix for device `j`. -/
def wPts (c : Dev nD) (j : Fin 32) (f : Vec F S4096x8192 .f32) : sProp 𝕄 :=
  ((c : Thread nD τ).loc main_arg1) ↦[wSet j]{fullShare} f

instance slotPts_storable (c : Dev nD) (s f) : BI.Storable (upEmb : UEmb _ 𝕄) (slotPts (F := F) c s f) := by unfold slotPts; infer_instance
instance partPts_storable (c : Dev nD) (b t f) : BI.Storable (upEmb : UEmb _ 𝕄) (partPts (F := F) c b t f) := by unfold partPts; infer_instance
instance rowPts_storable (c : Dev nD) (j f) : BI.Storable (upEmb : UEmb _ 𝕄) (rowPts (F := F) c j f) := by unfold rowPts; infer_instance
instance vPts_storable (c : Dev nD) (q f) : BI.Storable (upEmb : UEmb _ 𝕄) (vPts (F := F) c q f) := by unfold vPts; infer_instance
instance xPts_storable (c : Dev nD) (j f) : BI.Storable (upEmb : UEmb _ 𝕄) (xPts (F := F) c j f) := by unfold xPts; infer_instance
instance wPts_storable (c : Dev nD) (j f) : BI.Storable (upEmb : UEmb _ 𝕄) (wPts (F := F) c j f) := by unfold wPts; infer_instance

/-- The units a row block of the right matrix counts. -/
def nW : ℕ := (partM 0 0).view.dmaCredit
/-- The units a block of the left matrix counts. -/
def nX : ℕ := (slotM 0).view.dmaCredit
/-- The units a maximum counts. -/
def nV : ℕ := vM.view.dmaCredit
theorem nW_pos : 0 < nW := View.dmaCredit_pos _ (by decide)
theorem nX_pos : 0 < nX := View.dmaCredit_pos _ (by decide)
theorem nV_pos : 0 < nV := View.dmaCredit_pos _ (by decide)

section Sched

variable (m : (ℓ : Loc nD τ sig) → Buf (Elt F) ℓ)

/-- The contributions of round `r` of the semaphore `k` of device `c`: the barrier gets 31 at once; each part's semaphore
    one in each of four rounds; the semaphores of the exchange one each, but for the slot, and the row, a device fills itself. -/
def dutiesOf (c : Dev nD) : Key → ℕ → Finset (Fin 31)
  | .inl _, r => if r = 0 then Finset.univ else ∅
  | .inr (.inl _), r => if r < 4 then {0} else ∅
  | .inr (.inr (n, j)), r => if r = 0 ∧ j ≠ (if n.val < 2 then 0 else c) then {0} else ∅
/-- The units of one contribution. -/
def amountOf : Key → ℕ
  | .inl _ => 1
  | .inr (.inl _) => nW
  | .inr (.inr (n, _)) => if n.val < 2 then nX else nV
/-- What a contribution hands over. The barrier: the signaller's slot and row that the waiter will write. A part: the part
    filled, and the rows it was filled from. A departure: what was sent, back. An arrival: what arrived. -/
def payloadOf (c : Dev nD) : Key → ℕ → Fin 31 → sProp 𝕄
  | .inl _, _, i => iprop((∃ f, slotPts (bwd c i) i.succ f) ∗ (∃ f, rowPts (bwd c i) c f))
  | .inr (.inl (b, t)), r, _ =>
    iprop(partPts c b t (bank m c (2 * r + b.val)) ∗ wPts c (plus c (4 * (2 * r + b.val) + t.val)) (wArr m c))
  | .inr (.inr (n, j)), _, _ =>
    if n.val = 0 then xPts c (plus c (32 - j.val)) (xstg m c)
    else if n.val = 1 then slotPts c j (gath m c)
    else if n.val = 2 then vPts c (shareTok fullShare 32 j) (vmax m c)
    else rowPts c j (amax m)

theorem amountOf_pos (k : Key) : 0 < amountOf k := by
  rcases k with _ | _ | ⟨n, j⟩
  · exact Nat.one_pos
  · exact nW_pos
  · show 0 < if n.val < 2 then nX else nV
    split
    · exact nX_pos
    · exact nV_pos

instance payloadOf_storable (c : Dev nD) (k : Key) (r : ℕ) (d : Fin 31) :
    BI.Storable (upEmb : UEmb _ 𝕄) (payloadOf m c k r d) := by
  rcases k with _ | ⟨b, t⟩ | ⟨n, j⟩
  · unfold payloadOf; infer_instance
  · unfold payloadOf; infer_instance
  · unfold payloadOf; dsimp only; (repeat' split) <;> infer_instance

/-- The protocol: the contributions by the semaphores' names. -/
def ringRd : Rounds.Schedule (GSem nD τ sig) (Fin 31) 𝕄 where
  duties g r := match keyOf g.2 with
    | none => ∅
    | some k => dutiesOf g.1.1 k r
  unitless _ := False
  amount g _ _ := match keyOf g.2 with
    | none => 1
    | some k => amountOf k
  payload g r d := match keyOf g.2 with
    | none => iprop(emp)
    | some k => payloadOf m g.1.1 k r d
  amount_pos g _ _ _ := by
    split
    · exact Nat.one_pos
    · exact amountOf_pos _

instance ringRd_payload_storable (g : GSem nD τ sig) (r : ℕ) (d : Fin 31) :
    BI.Storable (upEmb : UEmb _ 𝕄) ((ringRd (F := F) m).payload g r d) := by
  unfold ringRd; dsimp only; split <;> infer_instance

theorem rd_duties (c : Dev nD) (k : Key) (r : ℕ) : (ringRd (F := F) m).duties (cell c k) r = dutiesOf c k r := by
  show (match keyOf (sem k) with | none => ∅ | some k => dutiesOf c k r) = _
  rw [keyOf_sem]
theorem rd_amount (c : Dev nD) (k : Key) (r : ℕ) (d : Fin 31) : (ringRd (F := F) m).amount (cell c k) r d = amountOf k := by
  show (match keyOf (sem k) with | none => 1 | some k => amountOf k) = _
  rw [keyOf_sem]
theorem rd_payload (c : Dev nD) (k : Key) (r : ℕ) (d : Fin 31) :
    (ringRd (F := F) m).payload (cell c k) r d = payloadOf m c k r d := by
  show (match keyOf (sem k) with | none => iprop(emp) | some k => payloadOf m c k r d) = _
  rw [keyOf_sem]

theorem rd_expect_one (c : Dev nD) (k : Key) (r : ℕ) (h : dutiesOf c k r = {0}) :
    (ringRd (F := F) m).expect (cell c k) r = amountOf k := by
  unfold Schedule.expect Schedule.amountOf
  rw [rd_duties, h, Finset.sum_singleton, rd_amount]
theorem rd_expect_bar (c : Dev nD) : (ringRd (F := F) m).expect (cell c kBar) 0 = 31 := by
  unfold Schedule.expect Schedule.amountOf
  rw [rd_duties, show dutiesOf c kBar 0 = Finset.univ from rfl, Finset.sum_congr rfl fun d _ => rd_amount m c kBar 0 d,
    Finset.sum_const, Finset.card_univ, Fintype.card_fin]
  rfl
theorem rd_rest_one (c : Dev nD) (k : Key) (r : ℕ) (h : dutiesOf c k r = {0}) :
    (bigSep ((ringRd (F := F) m).duties (cell c k) r \ ∅) fun d => (ringRd (F := F) m).payload (cell c k) r d) = payloadOf m c k r 0 := by
  rw [Finset.sdiff_empty, rd_duties, h, bigSep_singleton, rd_payload]
theorem rd_rest_bar (c : Dev nD) :
    (bigSep ((ringRd (F := F) m).duties (cell c kBar) 0 \ ∅) fun d => (ringRd (F := F) m).payload (cell c kBar) 0 d)
      = bigSep Finset.univ fun i => payloadOf m c kBar 0 i := by
  rw [Finset.sdiff_empty, rd_duties]
  exact bigSep_congr fun i _ => rd_payload m c kBar 0 i

end Sched

/-! ### What each device owes -/

/-- The sum of the members from number `k` on. -/
def rest {A : Type} [AddCommMonoid A] (f : Fin 31 → A) (k : ℕ) : A := ∑ i ∈ Finset.univ.filter (fun i : Fin 31 => k ≤ i.val), f i

theorem rest_step {A : Type} [AddCommMonoid A] (f : Fin 31 → A) (i : Fin 31) : rest f i.val = rest f (i.val + 1) + f i := by
  unfold rest
  rw [show (Finset.univ.filter fun j : Fin 31 => i.val ≤ j.val) = insert i (Finset.univ.filter fun j : Fin 31 => i.val + 1 ≤ j.val) from by
      ext j
      simp only [Finset.mem_filter, Finset.mem_univ, true_and, Finset.mem_insert]
      constructor
      · intro h
        by_cases e : j = i
        · exact Or.inl e
        · exact Or.inr (by have : j.val ≠ i.val := fun h' => e (Fin.ext h'); omega)
      · rintro (rfl | h) <;> omega,
    Finset.sum_insert (by simp), add_comm]
theorem rest_end {A : Type} [AddCommMonoid A] (f : Fin 31 → A) : rest f 31 = 0 :=
  Finset.sum_eq_zero fun i hi => absurd (Finset.mem_filter.1 hi).2 (by have := i.isLt; omega)
theorem rest_all {A : Type} [AddCommMonoid A] (f : Fin 31 → A) : rest f 0 = ∑ i, f i := by
  unfold rest; rw [Finset.filter_true_of_mem fun i _ => Nat.zero_le _]

/-- A unit to the barrier of the device of step `i`. -/
def oSig (c : Dev nD) (i : Fin 31) : CellTallies nD τ sig Unit := tallyAt (cell (fwd c i) kBar) () 1
/-- A block to the device of step `i`. -/
def oSend (c : Dev nD) (i : Fin 31) : CellTallies nD τ sig Unit := tallyAt (cell (bwd c i) (kX 1 i.succ)) () nX
/-- The maximum to the device of step `i`. -/
def oMax (c : Dev nD) (i : Fin 31) : CellTallies nD τ sig Unit := tallyAt (cell (fwd c i) (kX 3 c)) () nV
/-- All a device owes at launch. -/
def O₀ (c : Dev nD) : CellTallies nD τ sig Unit := rest (oSig c) 0 + (rest (oSend c) 0 + rest (oMax c) 0)

/-- Every cell of a core is in the order. -/
def L (g : GSem nD τ sig) : Finset Unit := if g.1.2 = .tc then {()} else ∅
/-- The order of a named semaphore. -/
def lvKey : Key → ℕ
  | .inl _ => 1
  | .inr (.inl _) => 0
  | .inr (.inr (n, _)) => if n.val = 1 then 2 else if n.val = 3 then 3 else 0
/-- The order: staging, copies and departures first, then the barrier, the blocks' arrivals, the maxima's arrivals. -/
def lv (g : GSem nD τ sig) (_ : Unit) : ℕ := match keyOf g.2 with
  | none => 0
  | some k => lvKey k

theorem lv_cell (c : Dev nD) (k : Key) (u : Unit) : lv (cell c k) u = lvKey k := by
  show (match keyOf (sem k) with | none => 0 | some k => lvKey k) = _
  rw [keyOf_sem]
theorem L_of_ne (g : GSem nD τ sig) (h : g.1.2 ≠ .tc) : L g = ∅ := if_neg h
theorem L_tc (c : Dev nD) (sm : SemLoc sig) : L ((c : Thread nD τ), sm) = {()} := if_pos rfl

/-- All that is owed lies above `n`. -/
def Above (n : ℕ) (O : CellTallies nD τ sig Unit) : Prop := ∀ g u, 0 < O g u → g.1.2 = .tc ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  by_cases e : 0 < O g u
  · exact h g u e
  · exact h' g u (by omega)
theorem above_tally {n k : ℕ} {c : Dev nD} {ky : Key} (h : n < lvKey ky) : Above n (tallyAt (cell c ky) () k) := fun g u hg => by
  rw [tallyAt_apply] at hg
  by_cases e : g = cell c ky ∧ u = ()
  · rw [e.1, lv_cell]; exact ⟨rfl, h⟩
  · rw [if_neg e] at hg; exact absurd hg (Nat.lt_irrefl 0)
theorem above_rest {n : ℕ} {f : Fin 31 → CellTallies nD τ sig Unit} (h : ∀ i, Above n (f i)) (k : ℕ) : Above n (rest f k) :=
  Finset.sum_induction f (Above n) (fun _ _ => above_add) (above_zero n) fun i _ => h i

theorem above_sig (c : Dev nD) {n : ℕ} (h : n < 1) (k : ℕ) : Above n (rest (oSig c) k) := above_rest (fun _ => above_tally h) k
theorem above_send (c : Dev nD) {n : ℕ} (h : n < 2) (k : ℕ) : Above n (rest (oSend c) k) := above_rest (fun _ => above_tally h) k
theorem above_max (c : Dev nD) {n : ℕ} (h : n < 3) (k : ℕ) : Above n (rest (oMax c) k) := above_rest (fun _ => above_tally h) k

/-- A device may wait for a semaphore below all that it owes. -/
theorem mayWait_above (c : Dev nD) (sm : SemLoc sig) {O : CellTallies nD τ sig Unit} (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by have h := (hO g u hg).1; unfold L; rw [if_pos h]; exact Finset.mem_singleton_self _)
    (fun p hp => by rw [Finset.mem_singleton.mp hp])
    (fun g u hg => (hO g u hg).2)
theorem mayWait_key (c : Dev nD) (k : Key) {O : CellTallies nD τ sig Unit} (hO : Above (lvKey k) O) :
    (levAts L lv : sProp 𝕄) ⊢ MayWait (c : Thread nD τ) (sem k) () O :=
  mayWait_above c (sem k) (by rw [show ((c : Thread nD τ), sem k) = cell c k from rfl, lv_cell]; exact hO)

end Cert.Ring

end
-- ==== Proof.Agree.lean ====
/- What the copies and the stores leave: each writes, in the part it names, the contents the proof tracks; and what the
   loads of the parts read. -/
module

public import proofs.«01_k».proof.Proof.Common

@[expose] public section

noncomputable section

namespace Cert.Ring

open Cert.KernelIdeal Cert.KernelIdeal.Gen
open Idealize.ShloMosaic Idealize.ShloMosaic.TcCoe
open Idealize.ShloMosaic.ValueIdx (ix2 ix3 eq_ix2 eq_ix3)
open Idealize.ShloMosaic.ValueKit (rect_emb_unit_val)

variable {F : FTy → Type} [FloatOps F]

/-! ### Where the slices' elements lie -/

/-- A rectangle's element, by the rectangle's corner. -/
theorem rect_emb2 {A B : ℕ} {off sz : Fin 2 → ℕ} (inb) {a b : ℕ} (h : off = ![a, b])
    (y : (Rect.unit (s := ⟨2, ![A, B]⟩) off sz inb).shape.Idx) (h0 : a + (y 0).val < A) (h1 : b + (y 1).val < B) :
    (Rect.unit (s := ⟨2, ![A, B]⟩) off sz inb).emb y = ix2 (⟨a + (y 0).val, h0⟩ : Fin A) (⟨b + (y 1).val, h1⟩ : Fin B) := by
  subst h
  refine funext fun x => Fin.ext ((rect_emb_unit_val _ _ _ _ x).trans ?_)
  revert x
  exact Fin.forall_fin_two.2 ⟨rfl, rfl⟩

theorem slot_emb (s : Fin 32) (y0 y1 : Fin 128) :
    (slotM s).view.emb (ix2 y0 y1) = (ix2 y0 ⟨128 * s.val + y1.val, by omega⟩ : S128x4096.Idx) := by
  refine (rect_emb2 (A := 128) (B := 4096) (inb_slot s) rfl (ix2 y0 y1) (by show 0 + y0.val < 128; omega) (by show 128 * s.val + y1.val < 4096; omega)).trans ?_
  exact congrArg (fun a => ix2 a _) (Fin.ext (Nat.zero_add _))
theorem wrow_emb (c : Dev nD) (r : Fin 32) (y0 : Fin 128) (y1 : Fin 8192) :
    (wrowM c r).view.emb (ix2 y0 y1)
      = (ix2 ⟨128 * (plus c r.val).val + y0.val, by have : (plus c r.val).val < 32 := Fin.isLt _; omega⟩ y1 : S4096x8192.Idx) := by
  have hp : (plus c r.val).val < 32 := Fin.isLt _
  refine (rect_emb2 (A := 4096) (B := 8192) (k0_off1_inb c r) (k0_off1_eq c r) (ix2 y0 y1)
    (by show 128 * (plus c r.val).val + y0.val < 4096; omega) (by show 0 + y1.val < 8192; omega)).trans ?_
  exact congrArg (fun a => ix2 _ a) (Fin.ext (Nat.zero_add _))
theorem xrow_emb (c : Dev nD) (i : Fin 31) (y0 y1 : Fin 128) :
    (xrowM c i).view.emb (ix2 y0 y1)
      = (ix2 ⟨128 * (bwd c i).val + y0.val, by have : (bwd c i).val < 32 := Fin.isLt _; omega⟩ y1 : S4096x128.Idx) := by
  have hp : (bwd c i).val < 32 := Fin.isLt _
  refine (rect_emb2 (A := 4096) (B := 128) (k0_off3_inb c i) (k0_off3_eq c i) (ix2 y0 y1)
    (by show 128 * (bwd c i).val + y0.val < 4096; omega) (by show 0 + y1.val < 128; omega)).trans ?_
  exact congrArg (fun a => ix2 _ a) (Fin.ext (Nat.zero_add _))
theorem row_emb (c : Dev nD) {off : Fin 2 → ℕ} (h : off = ![c.val, 0]) (inb) (y0 : Fin 1) (y1 : Fin 128) :
    (Rect.unit (s := S32x128) off S1x128.size inb).emb (ix2 y0 y1) = (ix2 (c : Fin 32) y1 : S32x128.Idx) := by
  have hp : c.val < 32 := Fin.isLt _
  have h0 : y0.val = 0 := by omega
  refine (rect_emb2 (A := 32) (B := 128) inb h (ix2 y0 y1)
    (by show c.val + y0.val < 32; omega) (by show 0 + y1.val < 128; omega)).trans ?_
  refine (congrArg (fun a => ix2 _ a) (Fin.ext (Nat.zero_add _))).trans (congrArg (fun a => ix2 a _) (Fin.ext ?_))
  show c.val + y0.val = c.val
  omega
theorem ownRow_emb (c : Dev nD) (y0 : Fin 1) (y1 : Fin 128) :
    (ownRowM c).view.emb (ix2 y0 y1) = (ix2 (c : Fin 32) y1 : S32x128.Idx) := row_emb c (k0_off6_eq c) (k0_off6_inb c) y0 y1
theorem part_emb (b : Fin 2) (t : Fin 4) (y0 : Fin 128) (y1 : Fin 8192) :
    (partM b t).view.emb (ix2 y0 y1) = (ix3 b ⟨128 * t.val + y0.val, by omega⟩ y1 : S2x512x8192.Idx) := by
  refine (congrArg (Rect.unit (s := S2x512x8192) ![b.val, 128 * t.val, 0] S1x128x8192.size (inb_part b t)).emb
    (ValueIdx.reshapeEquiv_ix2_1ab squeezes_S1x128x8192_S128x8192.numel_eq y0 y1)).trans ?_
  refine funext fun x => Fin.ext ((rect_emb_unit_val _ _ _ _ x).trans ?_)
  revert x
  exact Fin.forall_fin_succ.2 ⟨rfl, Fin.forall_fin_two.2 ⟨rfl, Nat.zero_add _⟩⟩

/-! ### What is written -/

/-- Contents written through a view agree, on what the view names, with any that hold the written values there. -/
theorem agree {sp : Space} {s : Shape} {e : EltTy} (v : View sig .tc sp s e) (f g : v.ty.Contents (Elt F)) (w : s.Idx → Elt F e)
    (h : ∀ y, _root_.cast (congrArg (Elt F) v.elt_eq.symm) (w y) = g (v.emb y)) :
    ∀ i ∈ v.set, v.write (Elt F) f w Finset.univ i = g i := fun i hi => by
  obtain ⟨y, rfl⟩ := View.exists_emb_of_mem_set v hi
  rw [View.write_emb_of_mem f w (Finset.mem_univ y)]
  exact h y

section Writes

variable (m : (ℓ : Loc nD τ sig) → Buf (Elt F) ℓ)

/-- A copied row block of the right matrix is its part of the bank. -/
theorem part_agree (c : Dev nD) (g : Fin 8) (t : Fin 4) (f : Vec F S2x512x8192 .f32) :
    ∀ i ∈ (partM (bankOf g) t).view.set,
      (partM (bankOf g) t).view.write (Elt F) f ((wrowM c (stepOf g t)).view.read (Elt F) (wArr m c)) Finset.univ i = bank m c g.val i := by
  refine agree (F := F) (partM (bankOf g) t).view f (bank m c g.val) _ fun y => ?_
  obtain ⟨y0, y1, rfl⟩ : ∃ (y0 : Fin 128) (y1 : Fin 8192), y = ix2 y0 y1 := ⟨_, _, eq_ix2 y⟩
  show wArr m c ((wrowM c (stepOf g t)).view.emb (ix2 y0 y1)) = bank m c g.val ((partM (bankOf g) t).view.emb (ix2 y0 y1))
  rw [wrow_emb, part_emb]
  show wArr m c _ = wArr m c _
  refine congrArg (fun a => wArr m c (ix2 a y1)) (Fin.ext ?_)
  show 128 * ((c.val + (4 * g.val + t.val)) % 32) + y0.val
    = 128 * ((c.val + (4 * g.val + (128 * t.val + y0.val) / 128)) % 32) + (128 * t.val + y0.val) % 128
  rw [show (128 * t.val + y0.val) / 128 = t.val by omega, show (128 * t.val + y0.val) % 128 = y0.val by omega]

/-- A block sent is its slot of the receiver's gathered rows. -/
theorem slot_agree (c : Dev nD) (i : Fin 31) (f : Vec F S128x4096 .f32) :
    ∀ j ∈ (slotM i.succ).view.set,
      (slotM i.succ).view.write (Elt F) f ((xrowM c i).view.read (Elt F) (xstg m c)) Finset.univ j = gath m (bwd c i) j := by
  refine agree (F := F) (slotM i.succ).view f (gath m (bwd c i)) _ fun y => ?_
  obtain ⟨y0, y1, rfl⟩ : ∃ (y0 : Fin 128) (y1 : Fin 128), y = ix2 y0 y1 := ⟨_, _, eq_ix2 y⟩
  show xstg m c ((xrowM c i).view.emb (ix2 y0 y1)) = gath m (bwd c i) ((slotM i.succ).view.emb (ix2 y0 y1))
  rw [xrow_emb, slot_emb]
  unfold gath
  have e : plus (bwd c i) ((128 * i.succ.val + y1.val) / 128) = c := by
    rw [show (128 * i.succ.val + y1.val) / 128 = i.succ.val by omega, bwd_plus]
  show xstg m c _ = xstg m (plus (bwd c i) ((128 * i.succ.val + y1.val) / 128)) _
  rw [e]
  refine congrArg (fun a => xstg m c (ix2 _ a)) (Fin.ext ?_)
  show y1.val = (128 * i.succ.val + y1.val) % 128
  omega

/-- The device's own block is slot 0 of its gathered rows. -/
theorem own_agree (c : Dev nD) (inb inb') (f : Vec F S128x4096 .f32) :
    ∀ j ∈ (Rect.unit (s := S128x4096) ![0, 0] S128x128.size inb).set,
      (gM.access (Rect.unit (s := S128x4096) ![0, 0] S128x128.size inb)).write (Elt F) f
        (k0_pay1 (xM.view.readAt (Elt F) (Rect.unit (s := S4096x128) (k0_off2 c) S128x128.size inb').toLoadRect (xstg m c))) Finset.univ j
        = gath m c j := by
  intro j hj
  refine agree (F := F) (gM.access (Rect.unit (s := S128x4096) ![0, 0] S128x128.size inb)) f (gath m c) _ (fun y => ?_) j
    (by rw [show (gM.access (Rect.unit (s := S128x4096) ![0, 0] S128x128.size inb)).set = _ from View.set_slice_whole cc0_scratch0 _]; exact hj)
  obtain ⟨y0, y1, rfl⟩ : ∃ (y0 : Fin 128) (y1 : Fin 128), y = ix2 y0 y1 := ⟨_, _, eq_ix2 y⟩
  have hc : c.val < 32 := c.isLt
  unfold k0_pay1
  dsimp only
  rw [shapeCast_self, shapeCast_self]
  show xstg m c ((Rect.unit (s := S4096x128) (k0_off2 c) S128x128.size inb').emb (ix2 y0 y1))
    = gath m c ((Rect.unit (s := S128x4096) ![0, 0] S128x128.size inb).emb (ix2 y0 y1))
  have e1 := rect_emb2 (A := 4096) (B := 128) inb' (k0_off2_eq c) (ix2 y0 y1)
    (by show 128 * c.val + y0.val < 4096; omega) (by show 0 + y1.val < 128; omega)
  have e2 := rect_emb2 (A := 128) (B := 4096) inb rfl (ix2 y0 y1) (by show 0 + y0.val < 128; omega) (by show 0 + y1.val < 4096; omega)
  refine (congrArg (xstg m c) e1).trans (Eq.trans ?_ (congrArg (gath m c) e2).symm)
  unfold gath
  have e : plus c ((0 + y1.val) / 128) = c := by rw [show (0 + y1.val) / 128 = 0 by omega, plus_zero]
  show xstg m c _ = xstg m (plus c ((0 + y1.val) / 128)) _
  rw [e]
  refine congrArg₂ (fun a b => xstg m c (ix2 a b)) (Fin.ext ?_) (Fin.ext ?_)
  · show 128 * c.val + y0.val = 128 * c.val + (0 + y0.val)
    omega
  · show 0 + y1.val = (0 + y1.val) % 128
    omega

/-- The maxima's rows. -/
theorem amax_row (c : Dev nD) (y1 : Fin 128) : amax m (ix2 (c : Fin 32) y1) = vmax m c (ix2 (0 : Fin 1) y1) := rfl

end Writes

/-- A row sent from one maximum, seen in contents that hold that maximum in the row. -/
theorem row_agree (c : Dev nD) (v : Vec F S1x128 .f32) (A f : Vec F S32x128 .f32)
    (hA : ∀ y1 : Fin 128, A (ix2 (c : Fin 32) y1) = v (ix2 (0 : Fin 1) y1)) :
    ∀ j ∈ (ownRowM c).view.set, (ownRowM c).view.write (Elt F) f (vM.view.read (Elt F) v) Finset.univ j = A j := by
  refine agree (F := F) (ownRowM c).view f A _ fun y => ?_
  obtain ⟨y0, y1, rfl⟩ : ∃ (y0 : Fin 1) (y1 : Fin 128), y = ix2 y0 y1 := ⟨_, _, eq_ix2 y⟩
  show v (ix2 y0 y1) = A ((ownRowM c).view.emb (ix2 y0 y1))
  rw [ownRow_emb, hA, show y0 = 0 from Subsingleton.elim _ _]

/-- A row stored from one maximum, seen in contents that hold that maximum in the row. -/
theorem ownRow_agree (c : Dev nD) (inb) (v : Vec F S1x128 .f32) (A f : Vec F S32x128 .f32)
    (hA : ∀ y1 : Fin 128, A (ix2 (c : Fin 32) y1) = v (ix2 (0 : Fin 1) y1)) :
    ∀ j ∈ (Rect.unit (s := S32x128) (k0_off7 c) S1x128.size inb).set,
      (aM.access (Rect.unit (s := S32x128) (k0_off7 c) S1x128.size inb)).write (Elt F) f (k0_pay13 v) Finset.univ j = A j := by
  intro j hj
  refine agree (F := F) (aM.access (Rect.unit (s := S32x128) (k0_off7 c) S1x128.size inb)) f A _ (fun y => ?_) j
    (by rw [show (aM.access (Rect.unit (s := S32x128) (k0_off7 c) S1x128.size inb)).set = _ from View.set_slice_whole cc0_scratch3 _]; exact hj)
  obtain ⟨y0, y1, rfl⟩ : ∃ (y0 : Fin 1) (y1 : Fin 128), y = ix2 y0 y1 := ⟨_, _, eq_ix2 y⟩
  unfold k0_pay13
  dsimp only
  rw [shapeCast_self]
  refine Eq.trans ?_ (congrArg A (row_emb c (k0_off7_eq c) inb y0 y1)).symm
  rw [hA, show y0 = 0 from Subsingleton.elim _ _]
  rfl

section Reads

variable (m : (ℓ : Loc nD τ sig) → Buf (Elt F) ℓ)

/-! ### What is read -/

/-- The load of a panel of the gathered rows. -/
theorem read_panel (c : Dev nD) (g : Fin 8) (inb) :
    gM.view.readAt (Elt F) (Rect.unit (s := S128x4096) ![0, 512 * g.val] S128x512.size inb).toLoadRect (gath m c) = panel m c g.val := by
  funext y
  obtain ⟨y0, y1, rfl⟩ : ∃ (y0 : Fin 128) (y1 : Fin 512), y = ix2 y0 y1 := ⟨_, _, eq_ix2 y⟩
  have e := rect_emb2 (A := 128) (B := 4096) inb rfl (ix2 y0 y1) (by show 0 + y0.val < 128; omega) (by show 512 * g.val + y1.val < 4096; omega)
  refine (congrArg (gath m c) e).trans ?_
  show gath m c _ = gath m c _
  refine congrArg₂ (fun a b => gath m c (ix2 a b)) (Fin.ext (Nat.zero_add _)) (Fin.ext ?_)
  show 512 * g.val + y1.val = (512 * g.val + y1.val) % 4096
  omega

/-- The load of a bank. -/
theorem read_bank (c : Dev nD) (g : Fin 8) (inb) :
    bM.view.readAt (Elt F) (Rect.unit (s := S2x512x8192) ![(bankOf g).val, 0, 0] S1x512x8192.size inb).toLoadRect (bank m c g.val) = brick m c g.val := by
  funext y
  obtain ⟨y0, y1, y2, rfl⟩ : ∃ (y0 : Fin 1) (y1 : Fin 512) (y2 : Fin 8192), y = ix3 y0 y1 y2 := ⟨_, _, _, eq_ix3 y⟩
  have e : (Rect.unit (s := S2x512x8192) ![(bankOf g).val, 0, 0] S1x512x8192.size inb).emb (ix3 y0 y1 y2) = (ix3 (bankOf g) y1 y2 : S2x512x8192.Idx) := by
    have h0 : y0.val = 0 := by omega
    refine funext fun x => Fin.ext ((rect_emb_unit_val _ _ _ _ x).trans ?_)
    revert x
    refine Fin.forall_fin_succ.2 ⟨?_, Fin.forall_fin_two.2 ⟨Nat.zero_add _, Nat.zero_add _⟩⟩
    show (bankOf g).val + y0.val = (bankOf g).val
    omega
  exact (congrArg (bank m c g.val) e).trans rfl

end Reads

end Cert.Ring

end
-- ==== Proof.Steps.lean ====
/- One lemma for each kind of operation of the body: what it needs, what it gives back; and the rule for a loop. -/
module

public import proofs.«01_k».proof.Proof.Sched
public import proofs.«01_k».proof.Proof.Agree

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type} [FloatOps F]

local notation "𝕄" => MT nD τ sig Unit (Elt F) ℕ UU ℕ

abbrev 𝒱₀ : Variants := Variants.none

/-- Device `c` runs `p` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`. -/
def owed (c : Dev nD) (O : CellTallies nD τ sig Unit) : sProp 𝕄 := iprop(∃ W, owes (c : Thread nD τ) O W)

/-! ### Loops -/

omit [FloatOps F] in
theorem bigSep_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]
  rfl

/-- A loop whose step `i` takes `A i` and the loop's state to `B i` and the next state. -/
theorem st_each (c : Dev nD) (P : sProp 𝕄) [BI.Persistent P] {n : ℕ} (f : Fin n → Prog (TpuEff nD τ sig (Elt F) Λ₀ .tc) PUnit)
    (A B : Fin n → sProp 𝕄) (R : ℕ → sProp 𝕄)
    (h : ∀ i (K : PUnit → sProp 𝕄), iprop(P ∗ A i ∗ R i.val) ⊢ iprop((iprop(B i ∗ R (i.val + 1)) -∗ K ⟨⟩) -∗ run c (f i) K))
    (K : PUnit → sProp 𝕄) :
    iprop(P ∗ bigSep Finset.univ A ∗ R 0) ⊢ iprop((iprop(bigSep Finset.univ B ∗ R n) -∗ K ⟨⟩) -∗ run c (each n f) K) := by
  induction n generalizing R K with
  | zero =>
    simp only [each, Prog.pure_eq_ret, wp_ret]
    iintro ⟨-, -, HR⟩ HK
    imodintro
    iapply HK
    isplitr [HR]
    · rw [Finset.univ_eq_empty, bigSep_empty]; iempintro
    · iexact HR
  | succ n ih =>
    rw [bigSep_succ A, bigSep_succ B]
    unfold each
    simp only [run, wp_bind]
    iintro ⟨#HP, ⟨HA, HAs⟩, HR⟩ HK
    have h0 : ∀ Kt : PUnit → sProp 𝕄, iprop(P ∗ A 0 ∗ R 0) ⊢ iprop((iprop(B 0 ∗ R (0 + 1)) -∗ Kt ⟨⟩) -∗ run c (f 0) Kt) := h 0
    iapply (h0 _) $$ [HA HR]
    · isplitr; · iexact HP
      isplitl [HA]; · iexact HA
      iexact HR
    iintro ⟨HB, HR⟩
    iapply (ih (fun i => f i.succ) (fun i => A i.succ) (fun i => B i.succ) (fun k => R (k + 1)) (fun i K => h i.succ K) K) $$ [HAs HR]
    · isplitr; · iexact HP
      isplitl [HAs]; · iexact HAs
      iexact HR
    iintro ⟨HBs, HR⟩
    iapply HK
    isplitl [HB HBs]
    · isplitl [HB] <;> iassumption
    · iexact HR

section Steps

variable (m : (ℓ : Loc nD τ sig) → Buf (Elt F) ℓ) (K : Dev nD × Key → ℕ)

/-- What every device knows: every semaphore's invariant, that its round 0 is reached, and the order. -/
def recs : sProp 𝕄 :=
  iprop((bigSep Finset.univ fun x : Dev nD × Key => cellInv ER (ringRd m) (K x) (cell x.1 x.2))
    ∗ (bigSep Finset.univ fun x : Dev nD × Key => reached ER (cell x.1 x.2) 0) ∗ levAts L lv)

instance recs_persistent : BI.Persistent (recs m K) := by unfold recs; infer_instance

theorem recs_inv (c : Dev nD) (k : Key) : recs m K ⊢ cellInv ER (ringRd m) (K (c, k)) (cell c k) := by
  unfold recs
  iintro ⟨H, -, -⟩
  have h : (bigSep Finset.univ fun x : Dev nD × Key => (cellInv ER (ringRd m) (K x) (cell x.1 x.2) : sProp 𝕄)) ⊢ cellInv ER (ringRd m) (K (c, k)) (cell c k) :=
    bigSep_elim (Finset.mem_univ ((c, k) : Dev nD × Key))
  iapply h $$ H
theorem recs_reached (c : Dev nD) (k : Key) : recs m K ⊢ reached ER (cell c k) 0 := by
  unfold recs
  iintro ⟨-, H, -⟩
  have h : (bigSep Finset.univ fun x : Dev nD × Key => (reached ER (cell x.1 x.2) 0 : sProp 𝕄)) ⊢ reached ER (cell c k) 0 :=
    bigSep_elim (Finset.mem_univ ((c, k) : Dev nD × Key))
  iapply h $$ H
theorem recs_wait (c : Dev nD) (k : Key) {O : CellTallies nD τ sig Unit} (hO : Above (lvKey k) O) :
    recs m K ⊢ MayWait (c : Thread nD τ) (sem k) () O := by
  unfold recs
  iintro ⟨-, -, H⟩
  iapply (mayWait_key (F := F) c k hO) $$ H

/-! ### Waits, copies and sends in general -/

/-- A wait for a transfer's semaphore that gets one contribution in its round. -/
theorem st_wait (c : Dev nD) (q : DmaSem sig) (k : Key) (hq : (.dma q : SemLoc sig) = sem k) (R : ℕ)
    (hd : dutiesOf c k R = {0}) {sp sp' : Space} {s s' : Shape} {e e' : EltTy} {src : Memref sig .tc sp s e} {dst : Memref sig .tc sp' s' e'}
    {h₁ : src.view.WordExact} {h₂ : dst.view.WordExact} (hn : dst.view.dmaCredit = amountOf k)
    {O : CellTallies nD τ sig Unit} (hO : Above (lvKey k) O) (Kt : PUnit → sProp 𝕄) :
    iprop(recs m K ∗ owed c O ∗ cred (tallyAt (cell c k) () (amountOf k)) ∗ atPos ER (cell c k) R ∅ 0)
      ⊢ iprop((iprop(owed c O ∗ atPos ER (cell c k) (R + 1) ∅ 0 ∗ reached ER (cell c k) (R + 1) ∗ payloadOf m c k R 0) -∗ Kt ⟨⟩)
          -∗ run c (Prog.lift (.waitDma2 q src dst h₁ h₂)) Kt) := by
  have hg : cell c k = ((c : Thread nD τ), SemLoc.dma q) := by rw [hq]; rfl
  unfold owed
  simp only [Prog.lift]
  iintro ⟨#HR, ⟨%W, HO⟩, Hc, Hat⟩ HK
  ihave #HI := (recs_inv m K c k) $$ HR
  rw [hg, ← hn]
  iapply (Rounds.wp_wait_rest_token 𝒱₀ ER (ringRd m) (c : Thread nD τ) none (κ := K (c, k))
      (wpE_waitDma2_eq 𝒱₀ (c : Thread nD τ) none Set.univ) (Set.mem_univ _) () (O := O) (W := W) (R := R) (m := 0) (T := ∅)
      (by rw [Nat.zero_add, ← hg, rd_expect_one m c k R hd, hn])) $$ [HO Hc Hat]
  · isplitr; · iexact HI
    isplitl [Hc]; · iexact Hc
    isplitl [HO]; · iexact HO
    isplitr; · rw [hq]; iapply (recs_wait m K c k hO); iexact HR
    iexact Hat
  iintro ⟨HO, Hat, Hr, Hp⟩
  rw [wp_ret]
  imodintro
  iapply HK
  isplitl [HO]; · iexists _; iexact HO
  isplitl [Hat]; · iexact Hat
  isplitl [Hr]; · iexact Hr
  rw [← hg]
  iapply (Entails.of_eq (rd_rest_one m c k R hd)) $$ Hp

/-- A copy on the device itself. -/
theorem st_copy (c : Dev nD) (q : DmaSem sig) (k : Key) (hq : (.dma q : SemLoc sig) = sem k) (R : ℕ)
    (hd : dutiesOf c k R = {0}) {sp sp' : Space} {s : Shape} {e : EltTy} {src : Memref sig .tc sp s e} {dst : Memref sig .tc sp' s e}
    {h₁ : src.view.WordExact} {h₂ : dst.view.WordExact} {h₃ : DmaTarget.Typed (nD := nD) (τ := τ) (p := (.tc : Proc τ)) sp (.dma q) (.here dst)}
    (hn : dst.view.dmaCredit = amountOf k) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ payloadOf m c k R 0) (Kt : PUnit → sProp 𝕄) :
    iprop(recs m K ∗ (src.view.loc (c : Thread nD τ) ↦[src.view.set]{fullShare} fs) ∗ (dst.view.loc (c : Thread nD τ) ↦[dst.view.set]{fullShare} fd)
        ∗ dutyTok ER (cell c k) R 0 ∗ reached ER (cell c k) R)
      ⊢ iprop((cred (tallyAt (cell c k) () (amountOf k)) -∗ Kt ⟨⟩)
          -∗ run c (Prog.lift (.enqueueDma src (.here dst) (.dma q) h₁ h₂ h₃)) Kt) := by
  have hg : cell c k = ((c : Thread nD τ), SemLoc.dma q) := by rw [hq]; rfl
  simp only [Prog.lift]
  iintro ⟨#HR, Hs, Hd, Ht, Hr⟩ HK
  ihave #HI := (recs_inv m K c k) $$ HR
  rw [hg]
  iapply (Rounds.wp_copy_pointsTo 𝒱₀ ER (ringRd m) (c : Thread nD τ) none (κ := K (c, k)) (r := R) (d := 0) (fs := fs) (fd := fd)
      (by rw [← hg, rd_duties, hd]; exact Finset.mem_singleton_self _) () (amountOf k) (show dst.view.amount (.dma q) = amountOf k from hn) (by rw [← hg, rd_amount])
      (by rw [← hg, rd_payload]; exact hpay)) $$ [Hs Hd Ht Hr]
  · isplitr; · iexact HI
    isplitl [Hs]; · iexact Hs
    isplitl [Hd]; · iexact Hd
    isplitl [Ht] <;> iassumption
  iintro Hc
  rw [wp_ret]
  imodintro
  iapply HK
  iexact Hc

/-- A copy to another device. -/
theorem st_send (c n n' : Dev nD) (hnn : n' = n) (q₁ q₂ : DmaSem sig) (k₁ k₂ : Key) (hq₁ : (.dma q₁ : SemLoc sig) = sem k₁)
    (hq₂ : (.dma q₂ : SemLoc sig) = sem k₂) (hd₁ : dutiesOf c k₁ 0 = {0}) (hd₂ : dutiesOf n k₂ 0 = {0})
    {sp sp' : Space} {s : Shape} {e : EltTy} {src : Memref sig .tc sp s e} {dst : Memref sig .tc sp' s e}
    {hsc : dst.view.ref.isScScratch = false}
    {h₁ : src.view.WordExact} {h₂ : dst.view.WordExact} {h₃ : DmaTarget.Typed sp (.dma q₂) (.remote (Dev.tc n' : Thread nD τ) dst (.dma q₁) hsc)}
    (N : ℕ) (hn : dst.view.dmaCredit = N) (ha₁ : amountOf k₁ = N) (ha₂ : amountOf k₂ = N) (q : PosShare TreeShare)
    (fs : Buf (Elt F) (src.view.loc (c : Thread nD τ))) (fd : Buf (Elt F) (dst.view.loc (n : Thread nD τ)))
    (hp₁ : (src.view.loc (c : Thread nD τ) ↦[src.view.set]{q} fs) ⊢ payloadOf m c k₁ 0 0)
    (hp₂ : (dst.view.loc (n : Thread nD τ) ↦[dst.view.set]{fullShare} (dst.view.write (Elt F) fd (src.view.read (Elt F) fs) Finset.univ))
      ⊢ payloadOf m n k₂ 0 0) (O : CellTallies nD τ sig Unit) (Kt : PUnit → sProp 𝕄) :
    iprop(recs m K ∗ (src.view.loc (c : Thread nD τ) ↦[src.view.set]{q} fs) ∗ (dst.view.loc (n : Thread nD τ) ↦[dst.view.set]{fullShare} fd)
        ∗ owed c (O + tallyAt (cell n k₂) () N) ∗ dutyTok ER (cell c k₁) 0 0 ∗ dutyTok ER (cell n k₂) 0 0)
      ⊢ iprop((iprop(cred (tallyAt (cell c k₁) () N) ∗ owed c O) -∗ Kt ⟨⟩)
          -∗ run c (Prog.lift (.enqueueDma src (.remote (Dev.tc n' : Thread nD τ) dst (.dma q₁) hsc) (.dma q₂) h₁ h₂ h₃)) Kt) := by
  subst hnn
  have hg₁ : cell c k₁ = ((c : Thread nD τ), SemLoc.dma q₁) := by rw [hq₁]; rfl
  have hg₂ : cell n' k₂ = ((n' : Thread nD τ), SemLoc.dma q₂) := by rw [hq₂]; rfl
  unfold owed
  simp only [Prog.lift]
  iintro ⟨#HR, Hs, Hd, ⟨%W, HO⟩, Ht₁, Ht₂⟩ HK
  ihave #HI₁ := (recs_inv m K c k₁) $$ HR
  ihave #HI₂ := (recs_inv m K n' k₂) $$ HR
  ihave #HR₁ := (recs_reached m K c k₁) $$ HR
  ihave #HR₂ := (recs_reached m K n' k₂) $$ HR
  rw [hg₁, hg₂]
  iapply (Rounds.wp_send_pointsTo 𝒱₀ ER (ringRd m) (c : Thread nD τ) none (κ₁ := K (c, k₁)) (κ₂ := K (n', k₂))
      (r₁ := 0) (r₂ := 0) (d₁ := 0) (d₂ := 0) (fs := fs) (fd := fd)
      (by rw [← hg₁, rd_duties, hd₁]; exact Finset.mem_singleton_self _) (by rw [← hg₂, rd_duties, hd₂]; exact Finset.mem_singleton_self _)
      () () N (show dst.view.amount (.dma q₂) = N from hn) (by rw [← hg₁, rd_amount, ha₁]) (by rw [← hg₂, rd_amount, ha₂]) O rfl (W := W)
      (by rw [← hg₁, rd_payload]; exact hp₁) (by rw [← hg₂, rd_payload]; exact hp₂)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  rw [wp_ret]
  imodintro
  iapply HK
  isplitl [Hc]; · iexact Hc
  iexists W
  iexact HO

/-! ### The barrier -/

theorem payload_bar (c : Dev nD) (i : Fin 31) :
    payloadOf m (fwd c i) kBar 0 i = iprop((∃ f, slotPts c i.succ f) ∗ (∃ f, rowPts c (fwd c i) f)) := by
  show iprop((∃ f, slotPts (bwd (fwd c i) i) i.succ f) ∗ (∃ f, rowPts (bwd (fwd c i) i) (fwd c i) f)) = _
  rw [bwd_fwd]

/-- A signal gives away the slot and the row its receiver will write. -/
theorem st_signal (c : Dev nD) (i : Fin 31) (O : CellTallies nD τ sig Unit) (Kt : PUnit → sProp 𝕄) :
    iprop(recs m K ∗ (dutyTok ER (cell (fwd c i) kBar) 0 i ∗ (∃ f, slotPts c i.succ f) ∗ (∃ f, rowPts c (fwd c i) f))
        ∗ owed c (rest (oSig c) i.val + O))
      ⊢ iprop((iprop(emp ∗ owed c (rest (oSig c) (i.val + 1) + O)) -∗ Kt ⟨⟩) -∗ run c (signal (F := F) c i) Kt) := by
  unfold owed
  iintro ⟨#HR, ⟨Ht, Hs, Hr⟩, ⟨%W, HO⟩⟩ HK
  unfold signal
  rw [sigDev_eq]
  simp only [semSignalWord, Prog.lift]
  ihave #HI := (recs_inv m K (fwd c i) kBar) $$ HR
  ihave #HRr := (recs_reached m K (fwd c i) kBar) $$ HR
  iapply (Rounds.wp_signal 𝒱₀ ER (ringRd m) (c : Thread nD τ) none (dst := (fwd c i : Thread nD τ)) (κ := K (fwd c i, kBar))
      (r := 0) (d := i) (by rw [show ((fwd c i : Thread nD τ), SemLoc.reg barSem) = cell (fwd c i) kBar from rfl, rd_duties]; exact Finset.mem_univ _)
      ((rd_amount m (fwd c i) kBar 0 i).trans (by decide)) () (rest (oSig c) (i.val + 1) + O)
      (O₀ := rest (oSig c) i.val + O) (by rw [rest_step, add_right_comm]; rfl) (W := W)) $$ [HO Ht Hs Hr]
  · isplitr; · iexact HI
    isplitl [HO]; · iexact HO
    isplitl [Ht]; · iexact Ht
    isplitl [Hs Hr]
    · rw [show ((fwd c i : Thread nD τ), SemLoc.reg barSem) = cell (fwd c i) kBar from rfl, rd_payload]
      rw [payload_bar]
      isplitl [Hs] <;> iassumption
    · iexact HRr
  iintro HO
  rw [wp_ret]
  imodintro
  iapply HK
  isplitr; · iempintro
  iexists W
  iexact HO

/-- The barrier's wait receives the slots and the rows the device will write. -/
theorem st_barWait (c : Dev nD) {O : CellTallies nD τ sig Unit} (hO : Above 1 O) (Kt : PUnit → sProp 𝕄) :
    iprop(recs m K ∗ owed c O ∗ cred (tallyAt (cell c kBar) () 31) ∗ atPos ER (cell c kBar) 0 ∅ 0)
      ⊢ iprop((iprop(owed c O ∗ atPos ER (cell c kBar) 1 ∅ 0
            ∗ bigSep Finset.univ fun i : Fin 31 => iprop((∃ f, slotPts (bwd c i) i.succ f) ∗ (∃ f, rowPts (bwd c i) c f))) -∗ Kt ⟨⟩)
          -∗ run c (barWait (F := F)) Kt) := by
  unfold owed
  iintro ⟨#HR, ⟨%W, HO⟩, Hc, Hat⟩ HK
  unfold barWait
  simp only [semWaitWord, Prog.lift]
  ihave #HI := (recs_inv m K c kBar) $$ HR
  iapply (Rounds.wp_wait_rest_token 𝒱₀ ER (ringRd m) (c : Thread nD τ) none (κ := K (c, kBar))
      (wpE_semWait_eq 𝒱₀ (c : Thread nD τ) none Set.univ) (Set.mem_univ _) () (O := O) (W := W) (R := 0) (m := 0) (T := ∅)
      (by rw [show ((c : Thread nD τ), SemLoc.reg barSem) = cell c kBar from rfl, rd_expect_bar]; rfl)) $$ [HO Hc Hat]
  · isplitr; · iexact HI
    isplitl [Hc]; · iexact Hc
    isplitl [HO]; · iexact HO
    isplitr; · iapply (recs_wait m K c kBar hO); iexact HR
    iexact Hat
  iintro ⟨HO, Hat, -, Hp⟩
  rw [wp_ret]
  imodintro
  iapply HK
  isplitl [HO]; · iexists _; iexact HO
  isplitl [Hat]; · iexact Hat
  rw [show ((c : Thread nD τ), SemLoc.reg barSem) = cell c kBar from rfl]
  iapply (Entails.of_eq (rd_rest_bar m c)) $$ Hp

/-! ### The transfers of the body -/

theorem duties_W (c : Dev nD) (b : Fin 2) (t : Fin 4) (g : Fin 8) : dutiesOf c (kW b t) (g.val / 2) = {0} :=
  if_pos (by have := g.isLt; omega)
theorem duties_X (c : Dev nD) (n : Fin 4) (j : Fin 32) (h : j ≠ (if n.val < 2 then 0 else c)) : dutiesOf c (kX n j) 0 = {0} :=
  if_pos ⟨rfl, h⟩

theorem back_bwd (c : Dev nD) (i : Fin 31) : plus c (32 - i.succ.val) = bwd c i := by revert c i; decide +kernel
theorem credit_part (b : Fin 2) (t : Fin 4) : (partM b t).view.dmaCredit = nW := rfl
theorem credit_slot (s : Fin 32) : (slotM s).view.dmaCredit = nX := rfl
theorem credit_xrow (c : Dev nD) (i : Fin 31) : (xrowM c i).view.dmaCredit = nX := rfl
theorem credit_own (c : Dev nD) : (ownRowM c).view.dmaCredit = nV := rfl
theorem credit_peer (c : Dev nD) (i : Fin 31) : (peerRowM c i).view.dmaCredit = nV := rfl

theorem two_mul_bank (g : Fin 8) : 2 * (g.val / 2) + (bankOf g).val = g.val := by show 2 * (g.val / 2) + g.val % 2 = g.val; omega

/-- The copy of a row block of the right matrix starts. -/
theorem st_wCopy (c : Dev nD) (g : Fin 8) (t : Fin 4) (Kt : PUnit → sProp 𝕄) :
    iprop(recs m K ∗ wPts c (plus c (4 * g.val + t.val)) (wArr m c) ∗ (∃ f, partPts c (bankOf g) t f)
        ∗ dutyTok ER (cell c (kW (bankOf g) t)) (g.val / 2) 0 ∗ reached ER (cell c (kW (bankOf g) t)) (g.val / 2))
      ⊢ iprop((cred (tallyAt (cell c (kW (bankOf g) t)) () nW) -∗ Kt ⟨⟩) -∗ run c (wCopy (F := F) c (bankOf g) (stepOf g t) t) Kt) := by
  iintro ⟨#HR, Hs, ⟨%f, Hd⟩, Ht, Hr⟩ HK
  have hs : wPts c (plus c (4 * g.val + t.val)) (wArr m c)
      = ((wrowM c (stepOf g t)).view.loc (c : Thread nD τ) ↦[(wrowM c (stepOf g t)).view.set]{fullShare} (wArr m c) : sProp 𝕄) := by
    rw [wrow_set]; rfl
  have hd (f : Vec F S2x512x8192 .f32) : partPts c (bankOf g) t f
      = ((partM (bankOf g) t).view.loc (c : Thread nD τ) ↦[(partM (bankOf g) t).view.set]{fullShare} f : sProp 𝕄) := by
    rw [part_set]; rfl
  unfold wCopy
  iapply (st_copy m K c (src := wrowM c (stepOf g t)) (dst := partM (bankOf g) t) (wSem (bankOf g) t) (kW (bankOf g) t) (wSem_eq _ t) (g.val / 2) (duties_W c _ t g) (credit_part _ t) (wArr m c) f
    (by
      unfold payloadOf
      dsimp only
      rw [two_mul_bank, hd, hs]
      exact sep_mono_left (Entails.of_eq (pointsTo_congr (part_agree m c g t f)))) Kt) $$ [Hs Hd Ht Hr]
  · isplitr; · iexact HR
    isplitl [Hs]; · iapply (Entails.of_eq hs) $$ Hs
    isplitl [Hd]; · iapply (Entails.of_eq (hd f)) $$ Hd
    isplitl [Ht] <;> iassumption
  iexact HK

/-- Its end is awaited: the part holds the rows. -/
theorem st_wWait (c : Dev nD) (g : Fin 8) (t : Fin 4) {O : CellTallies nD τ sig Unit} (hO : Above 0 O) (Kt : PUnit → sProp 𝕄) :
    iprop(recs m K ∗ owed c O ∗ cred (tallyAt (cell c (kW (bankOf g) t)) () nW) ∗ atPos ER (cell c (kW (bankOf g) t)) (g.val / 2) ∅ 0)
      ⊢ iprop((iprop(owed c O ∗ atPos ER (cell c (kW (bankOf g) t)) (g.val / 2 + 1) ∅ 0 ∗ reached ER (cell c (kW (bankOf g) t)) (g.val / 2 + 1)
            ∗ partPts c (bankOf g) t (bank m c g.val) ∗ wPts c (plus c (4 * g.val + t.val)) (wArr m c)) -∗ Kt ⟨⟩)
          -∗ run c (wWait (F := F) c (bankOf g) (stepOf g t) t) Kt) := by
  have h := st_wait m K c (wSem (bankOf g) t) (kW (bankOf g) t) (wSem_eq _ t) (g.val / 2) (duties_W c _ t g)
    (src := wrowM c (stepOf g t)) (dst := partM (bankOf g) t) (h₁ := View.wordExact_bits rfl) (h₂ := (View.wordExact_bits rfl).reshape _ _)
    (credit_part _ t) hO Kt
  unfold payloadOf at h
  dsimp only at h
  rw [two_mul_bank] at h
  exact h

/-- A block is sent. -/
theorem st_sendBlock (c : Dev nD) (i : Fin 31) (O : CellTallies nD τ sig Unit) (Kt : PUnit → sProp 𝕄) :
    iprop(recs m K ∗ (xPts c (bwd c i) (xstg m c) ∗ (∃ f, slotPts (bwd c i) i.succ f) ∗ dutyTok ER (cell c (kX 0 i.succ)) 0 0
        ∗ dutyTok ER (cell (bwd c i) (kX 1 i.succ)) 0 0) ∗ owed c (rest (oSend c) i.val + O))
      ⊢ iprop((iprop(cred (tallyAt (cell c (kX 0 i.succ)) () nX) ∗ owed c (rest (oSend c) (i.val + 1) + O)) -∗ Kt ⟨⟩)
          -∗ run c (send (F := F) c i) Kt) := by
  have hs : xPts c (bwd c i) (xstg m c)
      = ((xrowM c i).view.loc (c : Thread nD τ) ↦[(xrowM c i).view.set]{fullShare} (xstg m c) : sProp 𝕄) := by
    rw [xrow_set]; rfl
  have hd (f : Vec F S128x4096 .f32) : slotPts (bwd c i) i.succ f
      = ((slotM i.succ).view.loc (bwd c i : Thread nD τ) ↦[(slotM i.succ).view.set]{fullShare} f : sProp 𝕄) := by
    rw [slot_set]; rfl
  iintro ⟨#HR, ⟨Hs, ⟨%f, Hd⟩, Ht₁, Ht₂⟩, HO⟩ HK
  rw [rest_step, add_right_comm]
  unfold send
  iapply (st_send m K c (src := xrowM c i) (dst := slotM i.succ) (bwd c i) (sendDev i c) (sendDev_eq c i) (sSem i.succ) (rSem i.succ) (kX 0 i.succ) (kX 1 i.succ)
    (sSem_eq _) (rSem_eq _) (duties_X c 0 _ (Fin.succ_ne_zero i)) (duties_X (bwd c i) 1 _ (Fin.succ_ne_zero i)) nX (credit_slot _) rfl rfl fullShare
    (xstg m c) f
    (by
      show _ ⊢ xPts c (plus c (32 - i.succ.val)) (xstg m c)
      rw [back_bwd, hs])
    (by
      show _ ⊢ slotPts (bwd c i) i.succ (gath m (bwd c i))
      rw [hd]
      exact Entails.of_eq (pointsTo_congr (slot_agree m c i f)))
    (rest (oSend c) (i.val + 1) + O) Kt) $$ [Hs Hd Ht₁ Ht₂ HO]
  · isplitr; · iexact HR
    isplitl [Hs]; · iapply (Entails.of_eq hs) $$ Hs
    isplitl [Hd]; · iapply (Entails.of_eq (hd f)) $$ Hd
    isplitl [HO]; · iexact HO
    isplitl [Ht₁] <;> iassumption
  iexact HK

/-- The arrival in a slot is awaited. -/
theorem st_recvWait (c : Dev nD) (s : Fin 32) (hs : s ≠ 0) {O : CellTallies nD τ sig Unit} (hO : Above 2 O) (Kt : PUnit → sProp 𝕄) :
    iprop(recs m K ∗ owed c O ∗ cred (tallyAt (cell c (kX 1 s)) () nX) ∗ atPos ER (cell c (kX 1 s)) 0 ∅ 0)
      ⊢ iprop((iprop(owed c O ∗ atPos ER (cell c (kX 1 s)) 1 ∅ 0 ∗ reached ER (cell c (kX 1 s)) 1
            ∗ slotPts c s (gath m c)) -∗ Kt ⟨⟩)
          -∗ run c (recvWait (F := F) s) Kt) :=
  st_wait m K c (rSem s) (kX 1 s) (rSem_eq _) 0 (duties_X c 1 s hs)
    (src := xM.slice (Rect.unit (s := S4096x128) ![0, 0] S128x128.size inb_S4096x128_S128x128_0_0) (fun _ => rfl)) (dst := slotM s) (credit_slot s) hO Kt

/-- The departure of a block is awaited. -/
theorem st_sendWait (c : Dev nD) (i : Fin 31) {O : CellTallies nD τ sig Unit} (hO : Above 0 O) (Kt : PUnit → sProp 𝕄) :
    iprop(recs m K ∗ owed c O ∗ cred (tallyAt (cell c (kX 0 i.succ)) () nX) ∗ atPos ER (cell c (kX 0 i.succ)) 0 ∅ 0)
      ⊢ iprop((iprop(owed c O ∗ atPos ER (cell c (kX 0 i.succ)) 1 ∅ 0 ∗ reached ER (cell c (kX 0 i.succ)) 1
            ∗ xPts c (bwd c i) (xstg m c)) -∗ Kt ⟨⟩)
          -∗ run c (sendWait (F := F) c i) Kt) := by
  rw [← back_bwd]
  exact st_wait m K c (sSem i.succ) (kX 0 i.succ) (sSem_eq _) 0 (duties_X c 0 _ (Fin.succ_ne_zero i))
    (src := slotM i.succ) (dst := xrowM c i) (credit_xrow c i) hO Kt

/-- The maximum is sent. -/
theorem st_sendMax (c : Dev nD) (i : Fin 31) (Kt : PUnit → sProp 𝕄) :
    iprop(recs m K ∗ (vPts c (shareTok fullShare 32 (fwd c i : Fin 32)) (vmax m c) ∗ (∃ f, rowPts (fwd c i) c f)
        ∗ dutyTok ER (cell c (kX 2 (fwd c i))) 0 0
        ∗ dutyTok ER (cell (fwd c i) (kX 3 c)) 0 0) ∗ owed c (rest (oMax c) i.val))
      ⊢ iprop((iprop(cred (tallyAt (cell c (kX 2 (fwd c i))) () nV) ∗ owed c (rest (oMax c) (i.val + 1))) -∗ Kt ⟨⟩)
          -∗ run c (maxSend (F := F) c i) Kt) := by
  have hs (q : PosShare TreeShare) : vPts c q (vmax m c)
      = (vM.view.loc (c : Thread nD τ) ↦[vM.view.set]{q} (vmax m c) : sProp 𝕄) := by
    rw [show vM.view.set = Finset.univ from View.set_whole cc0_scratch2]; rfl
  have hd (f : Vec F S32x128 .f32) : rowPts (fwd c i) c f
      = ((ownRowM c).view.loc (fwd c i : Thread nD τ) ↦[(ownRowM c).view.set]{fullShare} f : sProp 𝕄) := by
    rw [ownRow_set]; rfl
  iintro ⟨#HR, ⟨Hs, ⟨%f, Hd⟩, Ht₁, Ht₂⟩, HO⟩ HK
  rw [rest_step]
  unfold maxSend
  iapply (st_send m K c (src := vM) (dst := ownRowM c) (fwd c i) (maxDev i c) (maxDev_eq c i) (asSem c i) (arOwn c) (kX 2 (fwd c i)) (kX 3 c)
    (asSem_eq c i) (arOwn_eq c) (duties_X c 2 _ (fwd_ne c i)) (duties_X (fwd c i) 3 _ (fwd_ne c i).symm) nV (credit_own c) rfl rfl
    (shareTok fullShare 32 (fwd c i : Fin 32)) (vmax m c) f
    (by
      show _ ⊢ vPts c (shareTok fullShare 32 (fwd c i : Fin 32)) (vmax m c)
      rw [hs])
    (by
      show _ ⊢ rowPts (fwd c i) c (amax m)
      rw [hd]
      exact Entails.of_eq (pointsTo_congr (row_agree c (vmax m c) (amax m) f (amax_row m c))))
    (rest (oMax c) (i.val + 1)) Kt) $$ [Hs Hd Ht₁ Ht₂ HO]
  · isplitr; · iexact HR
    isplitl [Hs]; · iapply (Entails.of_eq (hs _)) $$ Hs
    isplitl [Hd]; · iapply (Entails.of_eq (hd f)) $$ Hd
    isplitl [HO]; · iexact HO
    isplitl [Ht₁] <;> iassumption
  iexact HK

/-- Another device's maximum is awaited. -/
theorem st_recvMax (c : Dev nD) (i : Fin 31) {O : CellTallies nD τ sig Unit} (hO : Above 3 O) (Kt : PUnit → sProp 𝕄) :
    iprop(recs m K ∗ owed c O ∗ cred (tallyAt (cell c (kX 3 (fwd c i))) () nV) ∗ atPos ER (cell c (kX 3 (fwd c i))) 0 ∅ 0)
      ⊢ iprop((iprop(owed c O ∗ atPos ER (cell c (kX 3 (fwd c i))) 1 ∅ 0 ∗ reached ER (cell c (kX 3 (fwd c i))) 1
            ∗ rowPts c (fwd c i) (amax m)) -∗ Kt ⟨⟩)
          -∗ run c (maxRecv (F := F) c i) Kt) :=
  st_wait m K c (arSem c i) (kX 3 (fwd c i)) (arSem_eq c i) 0 (duties_X c 3 _ (fwd_ne c i))
    (src := vM) (dst := peerRowM c i) (credit_peer c i) hO Kt

/-- The departure of the maximum is awaited. -/
theorem st_sentMax (c : Dev nD) (i : Fin 31) {O : CellTallies nD τ sig Unit} (hO : Above 0 O) (Kt : PUnit → sProp 𝕄) :
    iprop(recs m K ∗ owed c O ∗ cred (tallyAt (cell c (kX 2 (fwd c i))) () nV) ∗ atPos ER (cell c (kX 2 (fwd c i))) 0 ∅ 0)
      ⊢ iprop((iprop(owed c O ∗ atPos ER (cell c (kX 2 (fwd c i))) 1 ∅ 0 ∗ reached ER (cell c (kX 2 (fwd c i))) 1
            ∗ vPts c (shareTok fullShare 32 (fwd c i : Fin 32)) (vmax m c)) -∗ Kt ⟨⟩)
          -∗ run c (maxSendWait (F := F) c i) Kt) :=
  st_wait m K c (asSem c i) (kX 2 (fwd c i)) (asSem_eq c i) 0 (duties_X c 2 _ (fwd_ne c i))
    (src := ownRowM c) (dst := vM) rfl hO Kt

end Steps

end Cert.Ring

end
-- ==== Proof.Phases.lean ====
/- The three parts of the body: what each starts from and what it leaves. -/
module

public import proofs.«01_k».proof.Proof.Steps

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type} [FloatOps F]

local notation "𝕄" => MT nD τ sig Unit (Elt F) ℕ UU ℕ

/-! ### Families of resources, regrouped -/

/-- Counting the devices from `c` on. -/
def fromC (c : Dev nD) : Fin 32 ≃ Fin 32 :=
  Equiv.ofBijective (fun s => (plus c s.val : Fin 32)) (by revert c; decide +kernel)
/-- Eight groups of four. -/
def groupsOf : Fin 8 × Fin 4 ≃ Fin 32 := Equiv.ofBijective (fun p => stepOf p.1 p.2) (by decide +kernel)

omit [FloatOps F] in
/-- A family over the devices: `c`'s member and the others', by their distance after `c`. -/
theorem bigSep_fwd (c : Dev nD) (Φ : Fin 32 → sProp 𝕄) :
    bigSep Finset.univ Φ = iprop(Φ c ∗ bigSep Finset.univ fun i : Fin 31 => Φ (fwd c i)) := by
  rw [bigSep_univ_equiv (fromC c) Φ, bigSep_succ]
  refine congrArg₂ (fun a b : sProp 𝕄 => iprop(a ∗ b)) ?_ (bigSep_congr fun i _ => ?_)
  · exact congrArg Φ (plus_zero c)
  · exact congrArg Φ (plus_fin c i)
omit [FloatOps F] in
/-- The same by their distance before `c`. -/
theorem bigSep_bwd (c : Dev nD) (Φ : Fin 32 → sProp 𝕄) :
    bigSep Finset.univ Φ = iprop(Φ c ∗ bigSep Finset.univ fun i : Fin 31 => Φ (bwd c i)) := by
  rw [bigSep_fwd c, bigSep_univ_equiv Fin.revPerm fun i : Fin 31 => Φ (fwd c i)]
  exact congrArg (fun b : sProp 𝕄 => iprop(Φ c ∗ b)) (bigSep_congr fun i _ => congrArg Φ (fwd_rev c i))
omit [FloatOps F] in
/-- A family over 32 steps by groups. -/
theorem bigSep_groups (Φ : Fin 32 → sProp 𝕄) :
    bigSep Finset.univ Φ = bigSep Finset.univ fun g : Fin 8 => bigSep Finset.univ fun t : Fin 4 => Φ (stepOf g t) := by
  rw [bigSep_univ_equiv groupsOf Φ, bigSep_univ_prod]
  rfl
omit [FloatOps F] in
/-- Eight groups: the first three and the rest. -/
theorem bigSep_ahead (Φ : Fin 8 → sProp 𝕄) :
    bigSep Finset.univ Φ = iprop(Φ 0 ∗ Φ 1 ∗ Φ 2 ∗ bigSep Finset.univ fun g : Fin 5 => Φ (ahead g)) := by
  rw [bigSep_succ, bigSep_succ, bigSep_succ]
  rfl
omit [FloatOps F] in
/-- Eight groups: the first, five, the last two. -/
theorem bigSep_mid (Φ : Fin 8 → sProp 𝕄) :
    bigSep Finset.univ Φ = iprop(Φ 0 ∗ (bigSep Finset.univ fun g : Fin 5 => Φ (mid g)) ∗ Φ 6 ∗ Φ 7) := by
  rw [bigSep_univ_eq_bigSepL [0, 1, 2, 3, 4, 5, 6, 7] (by decide) (by decide) Φ,
    bigSep_univ_eq_bigSepL [0, 1, 2, 3, 4] (by decide) (by decide) fun g : Fin 5 => Φ (mid g)]
  simp only [bigSepL_cons_cons, bigSepL_singleton]
  have a1 (a b c : sProp 𝕄) : iprop((a ∗ b) ∗ c) = iprop(a ∗ b ∗ c) := BI.sep_assoc.antisymm BI.sep_assoc'
  show iprop(Φ 0 ∗ Φ 1 ∗ Φ 2 ∗ Φ 3 ∗ Φ 4 ∗ Φ 5 ∗ Φ 6 ∗ Φ 7) = iprop(Φ 0 ∗ (Φ 1 ∗ Φ 2 ∗ Φ 3 ∗ Φ 4 ∗ Φ 5) ∗ Φ 6 ∗ Φ 7)
  simp only [a1]

/-! ### Parts of the buffers -/

/-- Panel `g` of the gathered rows. -/
def panelSet (g : Fin 8) : Finset S128x4096.Idx := Finset.univ.filter fun i => (i 1).val / 512 = g.val

/-- Device `c`'s panel `g` at `f`. -/
def panelPts (c : Dev nD) (g : Fin 8) (f : Vec F S128x4096 .f32) : sProp 𝕄 :=
  ((c : Thread nD τ).loc cc0_scratch0) ↦[panelSet g]{fullShare} f
/-- Device `c`'s bank `b` at `f`. -/
def bankPts (c : Dev nD) (b : Fin 2) (f : Vec F S2x512x8192 .f32) : sProp 𝕄 :=
  ((c : Thread nD τ).loc cc0_scratch1) ↦[bankSet b]{fullShare} f
/-- Device `c`'s staged result at `f`. -/
def outPts (c : Dev nD) (f : Vec F S128x8192 .f32) : sProp 𝕄 := ((c : Thread nD τ).loc cc0_stg1_0) ↦[Finset.univ]{fullShare} f
/-- Device `c`'s gathered rows at `f`. -/
def gPts (c : Dev nD) (f : Vec F S128x4096 .f32) : sProp 𝕄 := ((c : Thread nD τ).loc cc0_scratch0) ↦[Finset.univ]{fullShare} f
/-- Device `c`'s banks at `f`. -/
def bPts (c : Dev nD) (f : Vec F S2x512x8192 .f32) : sProp 𝕄 := ((c : Thread nD τ).loc cc0_scratch1) ↦[Finset.univ]{fullShare} f
/-- Device `c`'s maxima at `f`. -/
def aPts (c : Dev nD) (f : Vec F S32x128 .f32) : sProp 𝕄 := ((c : Thread nD τ).loc cc0_scratch3) ↦[Finset.univ]{fullShare} f
/-- Device `c`'s staged columns at `f`. -/
def xAll (c : Dev nD) (f : Vec F S4096x128 .f32) : sProp 𝕄 := ((c : Thread nD τ).loc cc0_stg0_0) ↦[Finset.univ]{fullShare} f
/-- Device `c`'s right matrix at `f`. -/
def wAll (c : Dev nD) (f : Vec F S4096x8192 .f32) : sProp 𝕄 := ((c : Thread nD τ).loc main_arg1) ↦[Finset.univ]{fullShare} f

theorem mem_slot (s : Fin 32) (i : S128x4096.Idx) : Iff (i ∈ slotSet s) ((i 1).val / 128 = s.val) :=
  ⟨fun h => (Finset.mem_filter.1 h).2, fun h => Finset.mem_filter.2 ⟨Finset.mem_univ _, h⟩⟩
theorem mem_panel (g : Fin 8) (i : S128x4096.Idx) : Iff (i ∈ panelSet g) ((i 1).val / 512 = g.val) :=
  ⟨fun h => (Finset.mem_filter.1 h).2, fun h => Finset.mem_filter.2 ⟨Finset.mem_univ _, h⟩⟩
theorem mem_part (b : Fin 2) (t : Fin 4) (i : S2x512x8192.Idx) : Iff (i ∈ partSet b t) ((i 0).val = b.val ∧ (i 1).val / 128 = t.val) :=
  ⟨fun h => (Finset.mem_filter.1 h).2, fun h => Finset.mem_filter.2 ⟨Finset.mem_univ _, h⟩⟩
theorem mem_bank (b : Fin 2) (i : S2x512x8192.Idx) : Iff (i ∈ bankSet b) ((i 0).val = b.val) :=
  ⟨fun h => (Finset.mem_filter.1 h).2, fun h => Finset.mem_filter.2 ⟨Finset.mem_univ _, h⟩⟩
theorem mem_w (j : Fin 32) (i : S4096x8192.Idx) : Iff (i ∈ wSet j) ((i 0).val / 128 = j.val) :=
  ⟨fun h => (Finset.mem_filter.1 h).2, fun h => Finset.mem_filter.2 ⟨Finset.mem_univ _, h⟩⟩
theorem mem_x (j : Fin 32) (i : S4096x128.Idx) : Iff (i ∈ xSet j) ((i 0).val / 128 = j.val) :=
  ⟨fun h => (Finset.mem_filter.1 h).2, fun h => Finset.mem_filter.2 ⟨Finset.mem_univ _, h⟩⟩
theorem mem_row (j : Fin 32) (i : S32x128.Idx) : Iff (i ∈ rowSet j) ((i 0).val = j.val) :=
  ⟨fun h => (Finset.mem_filter.1 h).2, fun h => Finset.mem_filter.2 ⟨Finset.mem_univ _, h⟩⟩

theorem panel_slots (g : Fin 8) (i : S128x4096.Idx) : Iff (i ∈ panelSet g) (∃ t : Fin 4, i ∈ slotSet (stepOf g t)) := by
  have h1 : (i 1).val < 4096 := (i 1).isLt
  constructor
  · intro h
    have h := (mem_panel g i).1 h
    exact ⟨⟨(i 1).val / 128 % 4, by omega⟩, (mem_slot _ i).2 (by show (i 1).val / 128 = 4 * g.val + (i 1).val / 128 % 4; omega)⟩
  · rintro ⟨t, h⟩
    have h : (i 1).val / 128 = 4 * g.val + t.val := (mem_slot _ i).1 h
    exact (mem_panel g i).2 (by omega)
theorem slot_disj {s s' : Fin 32} {i : S128x4096.Idx} (h : i ∈ slotSet s) (h' : i ∈ slotSet s') : s = s' :=
  Fin.ext (((mem_slot s i).1 h).symm.trans ((mem_slot s' i).1 h'))
theorem stepOf_inj {g : Fin 8} {t t' : Fin 4} (h : stepOf g t = stepOf g t') : t = t' := by
  have h : 4 * g.val + t.val = 4 * g.val + t'.val := congrArg Fin.val h
  exact Fin.ext (by omega)
theorem slots_all (i : S128x4096.Idx) : Iff (i ∈ (Finset.univ : Finset S128x4096.Idx)) (∃ s : Fin 32, i ∈ slotSet s) := by
  have h1 : (i 1).val < 4096 := (i 1).isLt
  exact ⟨fun _ => ⟨⟨(i 1).val / 128, by omega⟩, (mem_slot _ i).2 rfl⟩, fun _ => Finset.mem_univ _⟩
theorem panels_all (i : S128x4096.Idx) : Iff (i ∈ (Finset.univ : Finset S128x4096.Idx)) (∃ g : Fin 8, i ∈ panelSet g) := by
  have h1 : (i 1).val < 4096 := (i 1).isLt
  exact ⟨fun _ => ⟨⟨(i 1).val / 512, by omega⟩, (mem_panel _ i).2 rfl⟩, fun _ => Finset.mem_univ _⟩
theorem panel_disj {g g' : Fin 8} {i : S128x4096.Idx} (h : i ∈ panelSet g) (h' : i ∈ panelSet g') : g = g' :=
  Fin.ext (((mem_panel g i).1 h).symm.trans ((mem_panel g' i).1 h'))
theorem bank_parts (b : Fin 2) (i : S2x512x8192.Idx) : Iff (i ∈ bankSet b) (∃ t : Fin 4, i ∈ partSet b t) := by
  have h1 : (i 1).val < 512 := (i 1).isLt
  exact ⟨fun h => ⟨⟨(i 1).val / 128, by omega⟩, (mem_part _ _ i).2 ⟨(mem_bank b i).1 h, rfl⟩⟩,
    fun ⟨t, h⟩ => (mem_bank b i).2 ((mem_part b t i).1 h).1⟩
theorem part_disj {b : Fin 2} {t t' : Fin 4} {i : S2x512x8192.Idx} (h : i ∈ partSet b t) (h' : i ∈ partSet b t') : t = t' :=
  Fin.ext (((mem_part b t i).1 h).2.symm.trans ((mem_part b t' i).1 h').2)
theorem banks_all (i : S2x512x8192.Idx) : Iff (i ∈ (Finset.univ : Finset S2x512x8192.Idx)) (∃ p : Fin 2 × Fin 4, i ∈ partSet p.1 p.2) := by
  have h0 : (i 0).val < 2 := (i 0).isLt
  have h1 : (i 1).val < 512 := (i 1).isLt
  exact ⟨fun _ => ⟨(⟨(i 0).val, h0⟩, ⟨(i 1).val / 128, by omega⟩), (mem_part _ _ i).2 ⟨rfl, rfl⟩⟩, fun _ => Finset.mem_univ _⟩
theorem banks_disj {p p' : Fin 2 × Fin 4} {i : S2x512x8192.Idx} (h : i ∈ partSet p.1 p.2) (h' : i ∈ partSet p'.1 p'.2) : p = p' :=
  Prod.ext (Fin.ext (((mem_part _ _ i).1 h).1.symm.trans ((mem_part _ _ i).1 h').1))
    (Fin.ext (((mem_part _ _ i).1 h).2.symm.trans ((mem_part _ _ i).1 h').2))
theorem w_all (i : S4096x8192.Idx) : Iff (i ∈ (Finset.univ : Finset S4096x8192.Idx)) (∃ j : Fin 32, i ∈ wSet j) := by
  have h0 : (i 0).val < 4096 := (i 0).isLt
  exact ⟨fun _ => ⟨⟨(i 0).val / 128, by omega⟩, (mem_w _ i).2 rfl⟩, fun _ => Finset.mem_univ _⟩
theorem w_disj {j j' : Fin 32} {i : S4096x8192.Idx} (h : i ∈ wSet j) (h' : i ∈ wSet j') : j = j' :=
  Fin.ext (((mem_w j i).1 h).symm.trans ((mem_w j' i).1 h'))
theorem x_all (i : S4096x128.Idx) : Iff (i ∈ (Finset.univ : Finset S4096x128.Idx)) (∃ j : Fin 32, i ∈ xSet j) := by
  have h0 : (i 0).val < 4096 := (i 0).isLt
  exact ⟨fun _ => ⟨⟨(i 0).val / 128, by omega⟩, (mem_x _ i).2 rfl⟩, fun _ => Finset.mem_univ _⟩
theorem x_disj {j j' : Fin 32} {i : S4096x128.Idx} (h : i ∈ xSet j) (h' : i ∈ xSet j') : j = j' :=
  Fin.ext (((mem_x j i).1 h).symm.trans ((mem_x j' i).1 h'))
theorem row_all (i : S32x128.Idx) : Iff (i ∈ (Finset.univ : Finset S32x128.Idx)) (∃ j : Fin 32, i ∈ rowSet j) :=
  ⟨fun _ => ⟨⟨(i 0).val, (i 0).isLt⟩, (mem_row _ i).2 rfl⟩, fun _ => Finset.mem_univ _⟩
theorem row_disj {j j' : Fin 32} {i : S32x128.Idx} (h : i ∈ rowSet j) (h' : i ∈ rowSet j') : j = j' :=
  Fin.ext (((mem_row j i).1 h).symm.trans ((mem_row j' i).1 h'))

theorem panelPts_slots (c : Dev nD) (g : Fin 8) (f : Vec F S128x4096 .f32) :
    panelPts c g f = bigSep Finset.univ fun t : Fin 4 => slotPts c (stepOf g t) f :=
  pts_parts (F := F) (ℓ := (c : Thread nD τ).loc cc0_scratch0) f (panel_slots g) fun _ _ _ h h' => stepOf_inj (slot_disj h h')
theorem gPts_panels (c : Dev nD) (f : Vec F S128x4096 .f32) : gPts c f = bigSep Finset.univ fun g : Fin 8 => panelPts c g f :=
  pts_parts (F := F) (ℓ := (c : Thread nD τ).loc cc0_scratch0) f panels_all fun _ _ _ h h' => panel_disj h h'
theorem gPts_slots (c : Dev nD) (f : Vec F S128x4096 .f32) : gPts c f = bigSep Finset.univ fun s : Fin 32 => slotPts c s f :=
  pts_parts (F := F) (ℓ := (c : Thread nD τ).loc cc0_scratch0) f slots_all fun _ _ _ h h' => slot_disj h h'
theorem bankPts_parts (c : Dev nD) (b : Fin 2) (f : Vec F S2x512x8192 .f32) :
    bankPts c b f = bigSep Finset.univ fun t : Fin 4 => partPts c b t f :=
  pts_parts (F := F) (ℓ := (c : Thread nD τ).loc cc0_scratch1) f (bank_parts b) fun _ _ _ h h' => part_disj h h'
theorem bPts_parts (c : Dev nD) (f : Vec F S2x512x8192 .f32) :
    bPts c f = bigSep Finset.univ fun p : Fin 2 × Fin 4 => partPts c p.1 p.2 f :=
  pts_parts (F := F) (ℓ := (c : Thread nD τ).loc cc0_scratch1) f banks_all fun _ _ _ h h' => banks_disj h h'
theorem bPts_join (c : Dev nD) (f : Fin 2 × Fin 4 → Vec F S2x512x8192 .f32) :
    (bigSep Finset.univ fun p : Fin 2 × Fin 4 => partPts c p.1 p.2 (f p)) ⊢ iprop(∃ g, bPts c g) :=
  pts_join (F := F) (ℓ := (c : Thread nD τ).loc cc0_scratch1) banks_all (fun _ _ _ h h' => banks_disj h h') f
theorem aPts_rows (c : Dev nD) (f : Vec F S32x128 .f32) : aPts c f = bigSep Finset.univ fun j : Fin 32 => rowPts c j f :=
  pts_parts (F := F) (ℓ := (c : Thread nD τ).loc cc0_scratch3) f row_all fun _ _ _ h h' => row_disj h h'
theorem xAll_rows (c : Dev nD) (f : Vec F S4096x128 .f32) : xAll c f = bigSep Finset.univ fun j : Fin 32 => xPts c j f :=
  pts_parts (F := F) (ℓ := (c : Thread nD τ).loc cc0_stg0_0) f x_all fun _ _ _ h h' => x_disj h h'
theorem wAll_rows (c : Dev nD) (f : Vec F S4096x8192 .f32) : wAll c f = bigSep Finset.univ fun j : Fin 32 => wPts c j f :=
  pts_parts (F := F) (ℓ := (c : Thread nD τ).loc main_arg1) f w_all fun _ _ _ h h' => w_disj h h'

section Phases

variable (m : (ℓ : Loc nD τ sig) → Buf (Elt F) ℓ) (K : Dev nD × Key → ℕ)

/-! ### Loads and stores -/

theorem hz : (![0, 0] : Fin 2 → Nat) = fun _ => 0 := funext fun a => by fin_cases a <;> rfl

theorem st_loadOut (c : Dev nD) (f : Vec F S128x8192 .f32) (Kt : Vec F S128x8192 .f32 → sProp 𝕄) :
    outPts c f ⊢ iprop((outPts c f -∗ Kt f) -∗ run c (loadOut (F := F)) Kt) := by
  unfold outPts loadOut
  simp only [Prog.lift]
  iintro H HK
  iapply (wp_load 𝒱₀ (c : Thread nD τ) none Set.univ (m := oM) (Finset.subset_univ _)) $$ H
  iintro H
  rw [wp_ret, show oM.view.readAt (Elt F) (Rect.unit (s := S128x8192) ![0, 0] S128x8192.size inb_S128x8192_S128x8192_0_0).toLoadRect f = f from
    Memref.readAt_unit_zero (Elt F) cc0_stg1_0 hz _ f]
  imodintro
  iapply HK
  iexact H
theorem st_storeOut (c : Dev nD) (f v : Vec F S128x8192 .f32) (Kt : PUnit → sProp 𝕄) :
    outPts c f ⊢ iprop((outPts c v -∗ Kt ⟨⟩) -∗ run c (storeOut (F := F) v) Kt) := by
  unfold outPts storeOut
  simp only [Prog.lift]
  iintro H HK
  iapply (wp_store 𝒱₀ (c : Thread nD τ) none Set.univ (m := oM) (r := Rect.unit (s := S128x8192) ![0, 0] S128x8192.size inb_S128x8192_S128x8192_0_0)
    (Mk := Finset.univ) (Finset.subset_univ _)) $$ H
  iintro H
  rw [wp_ret, show (oM.access (Rect.unit (s := S128x8192) ![0, 0] S128x8192.size inb_S128x8192_S128x8192_0_0)).write (Elt F) f v Finset.univ = v from
    Memref.write_access_unit_zero_univ (Elt F) cc0_stg1_0 hz _ f v]
  imodintro
  iapply HK
  iexact H
theorem panel_rect (g : Fin 8) (inb) :
    (Rect.unit (s := S128x4096) ![0, 512 * g.val] S128x512.size inb).set = panelSet g := by
  ext i
  refine (mem_rect inb rfl i).trans (Iff.trans ?_ (mem_panel g i).symm)
  have h0 : (i 0).val < 128 := (i 0).isLt
  have e0 : S128x512.size 0 = 128 := rfl
  have e1 : S128x512.size 1 = 512 := rfl
  rw [e0, e1]
  omega
theorem st_loadPanel (c : Dev nD) (g : Fin 8) (Kt : Vec F S128x512 .f32 → sProp 𝕄) :
    panelPts c g (gath m c) ⊢ iprop((panelPts c g (gath m c) -∗ Kt (panel m c g.val)) -∗ run c (loadPanel (F := F) g) Kt) := by
  unfold panelPts loadPanel
  simp only [Prog.lift]
  iintro H HK
  iapply (wp_load 𝒱₀ (c : Thread nD τ) none Set.univ (m := gM)
    (Memref.setOn_subset_of_access_subset (c := (c : Thread nD τ)) (m := gM) ((View.set_slice_whole cc0_scratch0 _).trans (panel_rect g (inb_panel g))).subset)) $$ H
  iintro H
  rw [wp_ret, read_panel]
  imodintro
  iapply HK
  iexact H
theorem st_loadBank (c : Dev nD) (g : Fin 8) (Kt : Vec F S1x512x8192 .f32 → sProp 𝕄) :
    bankPts c (bankOf g) (bank m c g.val)
      ⊢ iprop((bankPts c (bankOf g) (bank m c g.val) -∗ Kt (brick m c g.val)) -∗ run c (loadBank (F := F) (bankOf g)) Kt) := by
  unfold bankPts loadBank
  simp only [Prog.lift]
  iintro H HK
  iapply (wp_load 𝒱₀ (c : Thread nD τ) none Set.univ (m := bM)
    (Memref.setOn_subset_of_access_subset (c := (c : Thread nD τ)) (m := bM) ((View.set_slice_whole cc0_scratch1 _).trans (bank_rect (bankOf g) (inb_bank (bankOf g)))).subset)) $$ H
  iintro H
  rw [wp_ret, read_bank]
  imodintro
  iapply HK
  iexact H

end Phases

end Cert.Ring

end
-- ==== Proof.Products.lean ====
/- The second part of the body: eight products, the copies for later groups started between them. -/
module

public import proofs.«01_k».proof.Proof.Phases

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type} [FloatOps F]

local notation "𝕄" => MT nD τ sig Unit (Elt F) ℕ UU ℕ

omit [FloatOps F] in
theorem join2 {n : ℕ} (A B : Fin n → sProp 𝕄) :
    iprop(bigSep Finset.univ A ∗ bigSep Finset.univ B) ⊢ bigSep Finset.univ fun i => iprop(A i ∗ B i) := Entails.of_eq (bigSep_sep' _ A B).symm
omit [FloatOps F] in
theorem join3 {n : ℕ} (A B C : Fin n → sProp 𝕄) :
    iprop(bigSep Finset.univ A ∗ bigSep Finset.univ B ∗ bigSep Finset.univ C) ⊢ bigSep Finset.univ fun i => iprop(A i ∗ B i ∗ C i) :=
  Entails.of_eq (by rw [bigSep_sep', bigSep_sep'])
theorem part_any (c : Dev nD) (b : Fin 2) (t : Fin 4) (f : Vec F S2x512x8192 .f32) :
    partPts c b t f ⊢ (iprop(∃ f, partPts c b t f) : sProp 𝕄) := by
  iintro H; iexists f; iexact H

section Products

variable (m : (ℓ : Loc nD τ sig) → Buf (Elt F) ℓ) (K : Dev nD × Key → ℕ)

/-- The bank of the `k`-th group, for any `k`. -/
def bk (k : ℕ) : Fin 2 := ⟨k % 2, Nat.mod_lt _ (by decide)⟩

/-- The bank of group `k` is free: its semaphores stand at round `k/2`, its parts are held. -/
def idle (c : Dev nD) (k : ℕ) : sProp 𝕄 := bigSep Finset.univ fun t : Fin 4 =>
  iprop(atPos ER (cell c (kW (bk k) t)) (k / 2) ∅ 0 ∗ reached ER (cell c (kW (bk k) t)) (k / 2) ∗ ∃ f, partPts c (bk k) t f)
/-- The copies of group `k` are under way. -/
def busy (c : Dev nD) (k : ℕ) : sProp 𝕄 := bigSep Finset.univ fun t : Fin 4 =>
  iprop(atPos ER (cell c (kW (bk k) t)) (k / 2) ∅ 0 ∗ cred (tallyAt (cell c (kW (bk k) t)) () nW))
/-- The rows of the right matrix for group `g`. -/
def wRows (c : Dev nD) (g : Fin 8) : sProp 𝕄 := bigSep Finset.univ fun t : Fin 4 => wPts c (plus c (stepOf g t).val) (wArr m c)
/-- The right to start the copies of group `g`. -/
def wTok (c : Dev nD) (g : Fin 8) : sProp 𝕄 := bigSep Finset.univ fun t : Fin 4 => dutyTok ER (cell c (kW (bankOf g) t)) (g.val / 2) (0 : Fin 31)
/-- What slot `s` waits for: an arrival; the device's own slot is there already. -/
def slotIn (c : Dev nD) (s : Fin 32) : sProp 𝕄 :=
  if s = 0 then slotPts c 0 (gath m c) else iprop(cred (tallyAt (cell c (kX 1 s)) () nX) ∗ atPos ER (cell c (kX 1 s)) 0 ∅ 0)
/-- What is left of it: the semaphore one round on. -/
def slotOut (c : Dev nD) (s : Fin 32) : sProp 𝕄 := if s = 0 then iprop(emp) else atPos ER (cell c (kX 1 s)) 1 ∅ 0
/-- The slots of group `g`, before. -/
def gIn (c : Dev nD) (g : Fin 8) : sProp 𝕄 := bigSep Finset.univ fun t : Fin 4 => slotIn m c (stepOf g t)
/-- The slots of group `g`, after. -/
def gOut (c : Dev nD) (g : Fin 8) : sProp 𝕄 :=
  iprop(panelPts c g (gath m c) ∗ bigSep Finset.univ fun t : Fin 4 => slotOut (F := F) c (stepOf g t))

theorem idle_next (c : Dev nD) (g : Fin 8) : (idle c (g.val + 2) : sProp 𝕄) = bigSep Finset.univ fun t : Fin 4 =>
    iprop(atPos ER (cell c (kW (bankOf g) t)) (g.val / 2 + 1) ∅ 0 ∗ reached ER (cell c (kW (bankOf g) t)) (g.val / 2 + 1) ∗ ∃ f, partPts c (bankOf g) t f) := by
  unfold idle
  rw [show bk (g.val + 2) = bankOf g from Fin.ext (Nat.add_mod_right _ _), show (g.val + 2) / 2 = g.val / 2 + 1 by omega]

/-- The four copies of a group are started. -/
theorem st_wCopies (c : Dev nD) (g : Fin 8) (Kt : PUnit → sProp 𝕄) :
    iprop(recs m K ∗ idle c g.val ∗ wRows m c g ∗ wTok c g) ⊢ iprop((busy c g.val -∗ Kt ⟨⟩) -∗ run c (wCopies c g) Kt) := by
  unfold idle wRows wTok wCopies
  iintro ⟨#HR, Hi, Hw, Ht⟩ HK
  iapply (st_each c (recs m K) (fun t => wCopy c (bankOf g) (stepOf g t) t)
    (fun t => iprop((atPos ER (cell c (kW (bk g.val) t)) (g.val / 2) ∅ 0 ∗ reached ER (cell c (kW (bk g.val) t)) (g.val / 2) ∗ ∃ f, partPts c (bk g.val) t f)
      ∗ wPts c (plus c (stepOf g t).val) (wArr m c) ∗ dutyTok ER (cell c (kW (bankOf g) t)) (g.val / 2) (0 : Fin 31)))
    (fun t => iprop(atPos ER (cell c (kW (bk g.val) t)) (g.val / 2) ∅ 0 ∗ cred (tallyAt (cell c (kW (bk g.val) t)) () nW)))
    (fun _ => iprop(emp)) ?h Kt) $$ [Hi Hw Ht]
  case h =>
    intro t Kt
    iintro ⟨#HR, ⟨⟨Ha, Hr, Hp⟩, Hw, Ht⟩, -⟩ HK
    iapply (st_wCopy m K c g t Kt) $$ [Hr Hp Hw Ht]
    · isplitr; · iexact HR
      isplitl [Hw]; · iexact Hw
      isplitl [Hp]; · iexact Hp
      isplitl [Ht]; · iexact Ht
      iexact Hr
    iintro Hc
    iapply HK
    isplitl
    · isplitl [Ha]; · iexact Ha
      iexact Hc
    · iempintro
  · isplitr; · iexact HR
    isplitl
    · iapply join3
      isplitl [Hi]; · iexact Hi
      isplitl [Hw]; · iexact Hw
      iexact Ht
    · iempintro
  iintro ⟨H, -⟩
  iapply HK
  unfold busy
  iexact H

/-- The four copies of a group are awaited. -/
theorem st_wWaits (c : Dev nD) (g : Fin 8) {O : CellTallies nD τ sig Unit} (hO : Above 0 O) (Kt : PUnit → sProp 𝕄) :
    iprop(recs m K ∗ busy c g.val ∗ owed c O)
      ⊢ iprop((iprop((bigSep Finset.univ fun t : Fin 4 => atPos ER (cell c (kW (bankOf g) t)) (g.val / 2 + 1) ∅ 0)
          ∗ (bigSep Finset.univ fun t : Fin 4 => reached ER (cell c (kW (bankOf g) t)) (g.val / 2 + 1))
          ∗ bankPts c (bankOf g) (bank m c g.val) ∗ wRows m c g ∗ owed c O) -∗ Kt ⟨⟩) -∗ run c (wWaits c g) Kt) := by
  unfold busy wRows wWaits
  iintro ⟨#HR, Hb, HO⟩ HK
  iapply (st_each c (recs m K) (fun t => wWait c (bankOf g) (stepOf g t) t)
    (fun t => iprop(atPos ER (cell c (kW (bk g.val) t)) (g.val / 2) ∅ 0 ∗ cred (tallyAt (cell c (kW (bk g.val) t)) () nW)))
    (fun t => iprop(atPos ER (cell c (kW (bankOf g) t)) (g.val / 2 + 1) ∅ 0 ∗ reached ER (cell c (kW (bankOf g) t)) (g.val / 2 + 1)
      ∗ partPts c (bankOf g) t (bank m c g.val) ∗ wPts c (plus c (stepOf g t).val) (wArr m c)))
    (fun _ => owed c O) ?h Kt) $$ [Hb HO]
  case h =>
    intro t Kt
    iintro ⟨#HR, ⟨Ha, Hc⟩, HO⟩ HK
    iapply (st_wWait m K c g t hO Kt) $$ [Ha Hc HO]
    · isplitr; · iexact HR
      isplitl [HO]; · iexact HO
      isplitl [Hc]; · iexact Hc
      iexact Ha
    iintro ⟨HO, Ha, Hr, Hp, Hw⟩
    iapply HK
    isplitr [HO]
    · isplitl [Ha]; · iexact Ha
      isplitl [Hr]; · iexact Hr
      isplitl [Hp]; · iexact Hp
      iexact Hw
    · iexact HO
  · isplitr; · iexact HR
    isplitl [Hb]; · iexact Hb
    iexact HO
  rw [bigSep_sep', bigSep_sep', bigSep_sep', bankPts_parts]
  iintro ⟨⟨Ha, Hr, Hp, Hw⟩, HO⟩
  iapply HK
  isplitl [Ha]; · iexact Ha
  isplitl [Hr]; · iexact Hr
  isplitl [Hp]; · iexact Hp
  isplitl [Hw]; · iexact Hw
  iexact HO

theorem bank_free (c : Dev nD) (g : Fin 8) :
    iprop((bigSep Finset.univ fun t : Fin 4 => atPos ER (cell c (kW (bankOf g) t)) (g.val / 2 + 1) ∅ 0)
          ∗ (bigSep Finset.univ fun t : Fin 4 => reached ER (cell c (kW (bankOf g) t)) (g.val / 2 + 1))
          ∗ bankPts c (bankOf g) (bank m c g.val)) ⊢ (idle c (g.val + 2) : sProp 𝕄) := by
  rw [idle_next, bigSep_sep', bigSep_sep', bankPts_parts]
  iintro ⟨Ha, Hr, Hp⟩
  isplitl [Ha]; · iexact Ha
  isplitl [Hr]; · iexact Hr
  have h : (bigSep Finset.univ fun t : Fin 4 => partPts c (bankOf g) t (bank m c g.val))
      ⊢ (bigSep Finset.univ fun t : Fin 4 => iprop(∃ f, partPts c (bankOf g) t f) : sProp 𝕄) :=
    bigSep_mono fun t _ => part_any c (bankOf g) t _
  iapply h $$ Hp

theorem step_ne {g : Fin 8} (hg : g ≠ 0) (t : Fin 4) : stepOf g t ≠ 0 := fun h => hg (Fin.ext (by
  have h : 4 * g.val + t.val = 0 := congrArg Fin.val h
  show g.val = 0
  omega))

/-- The arrivals of a later group are awaited. -/
theorem st_recvs (c : Dev nD) (g : Fin 8) (hg : g ≠ 0) {O : CellTallies nD τ sig Unit} (hO : Above 2 O) (Kt : PUnit → sProp 𝕄) :
    iprop(recs m K ∗ gIn m c g ∗ owed c O)
      ⊢ iprop((iprop(gOut m c g ∗ owed c O) -∗ Kt ⟨⟩) -∗ run c (each 4 fun t => recvWait (stepOf g t)) Kt) := by
  unfold gIn gOut
  rw [panelPts_slots, ← bigSep_sep']
  refine st_each c (recs m K) (fun t => recvWait (stepOf g t)) (fun t => slotIn m c (stepOf g t))
    (fun t => iprop(slotPts c (stepOf g t) (gath m c) ∗ slotOut c (stepOf g t))) (fun _ => owed c O) (fun t Kt => ?_) Kt
  unfold slotIn slotOut
  rw [if_neg (step_ne hg t), if_neg (step_ne hg t)]
  iintro ⟨#HR, ⟨Hc, Ha⟩, HO⟩ HK
  iapply (st_recvWait m K c (stepOf g t) (step_ne hg t) hO Kt) $$ [Hc Ha HO]
  · isplitr; · iexact HR
    isplitl [HO]; · iexact HO
    isplitl [Hc]; · iexact Hc
    iexact Ha
  iintro ⟨HO, Ha, -, Hs⟩
  iapply HK
  isplitl [Ha Hs]
  · isplitl [Hs] <;> iassumption
  · iexact HO

/-- The arrivals of the first group: its slot 0 is the device's own. -/
theorem st_recvs0 (c : Dev nD) {O : CellTallies nD τ sig Unit} (hO : Above 2 O) (Kt : PUnit → sProp 𝕄) :
    iprop(recs m K ∗ gIn m c 0 ∗ owed c O)
      ⊢ iprop((iprop(gOut m c 0 ∗ owed c O) -∗ Kt ⟨⟩) -∗ run c (each 3 fun t => recvWait ⟨t.val + 1, by omega⟩) Kt) := by
  unfold gIn gOut
  rw [panelPts_slots, ← bigSep_sep', bigSep_succ (n := 3) (fun t => slotIn m c (stepOf 0 t)),
    bigSep_succ (n := 3) (fun t => iprop(slotPts c (stepOf 0 t) (gath m c) ∗ slotOut c (stepOf 0 t)))]
  have ne (t : Fin 3) : stepOf 0 t.succ ≠ 0 := by revert t; decide
  iintro ⟨#HR, ⟨H0, Hs⟩, HO⟩ HK
  iapply (st_each c (recs m K) (fun t => recvWait ⟨t.val + 1, by omega⟩) (fun t => slotIn m c (stepOf 0 t.succ))
    (fun t => iprop(slotPts c (stepOf 0 t.succ) (gath m c) ∗ slotOut c (stepOf 0 t.succ))) (fun _ => owed c O) ?h Kt) $$ [Hs HO]
  case h =>
    intro t Kt
    have es : (⟨t.val + 1, by omega⟩ : Fin 32) = stepOf 0 t.succ := by revert t; decide
    unfold slotIn slotOut
    rw [if_neg (ne t), if_neg (ne t), es]
    iintro ⟨#HR, ⟨Hc, Ha⟩, HO⟩ HK
    iapply (st_recvWait m K c (stepOf 0 t.succ) (ne t) hO Kt) $$ [Hc Ha HO]
    · isplitr; · iexact HR
      isplitl [HO]; · iexact HO
      isplitl [Hc]; · iexact Hc
      iexact Ha
    iintro ⟨HO, Ha, -, Hs⟩
    iapply HK
    isplitl [Ha Hs]
    · isplitl [Hs] <;> iassumption
    · iexact HO
  · isplitr; · iexact HR
    isplitl [Hs]; · iexact Hs
    iexact HO
  iintro ⟨Hs, HO⟩
  iapply HK
  isplitr [HO]
  · isplitl [H0]
    · isplitl [H0]
      · have h : slotIn m c (stepOf 0 0) ⊢ slotPts c (stepOf 0 0) (gath m c) := by
          unfold slotIn; rw [if_pos (show stepOf 0 0 = 0 by decide), show stepOf 0 0 = 0 by decide]
        iapply h $$ H0
      · unfold slotOut; rw [if_pos (show stepOf 0 0 = 0 by decide)]; iempintro
    · iexact Hs
  · iexact HO

/-- The first group. -/
theorem st_group0 (c : Dev nD) {O : CellTallies nD τ sig Unit} (hO : Above 2 O) (hO' : Above 0 O) (Kt : PUnit → sProp 𝕄) :
    iprop(recs m K ∗ busy c 0 ∗ gIn m c 0 ∗ (∃ f, outPts c f) ∗ owed c O)
      ⊢ iprop((iprop(idle c 2 ∗ wRows m c 0 ∗ gOut m c 0 ∗ outPts c (outs m c 0) ∗ owed c O) -∗ Kt ⟨⟩) -∗ run c (group0 c) Kt) := by
  unfold group0
  simp only [run, wp_bind]
  iintro ⟨#HR, Hb, Hg, ⟨%f, Ho⟩, HO⟩ HK
  iapply (st_wWaits m K c 0 hO' _) $$ [Hb HO]
  · isplitr; · iexact HR
    isplitl [Hb]; · iexact Hb
    iexact HO
  iintro ⟨Ha, Hr, Hb, Hw, HO⟩
  iapply (st_recvs0 m K c hO _) $$ [Hg HO]
  · isplitr; · iexact HR
    isplitl [Hg]; · iexact Hg
    iexact HO
  unfold gOut
  iintro ⟨⟨Hp, Hs⟩, HO⟩
  iapply (st_loadPanel m c 0 _) $$ Hp
  iintro Hp
  iapply (st_loadBank m c 0 _) $$ Hb
  iintro Hb
  iapply (st_loadOut c f _) $$ Ho
  iintro Ho
  iapply (st_storeOut c f _ _) $$ Ho
  iintro Ho
  iapply HK
  isplitl [Ha Hr Hb]
  · iapply (bank_free m c 0)
    isplitl [Ha]; · iexact Ha
    isplitl [Hr]; · iexact Hr
    iexact Hb
  isplitl [Hw]; · iexact Hw
  isplitl [Hp Hs]
  · isplitl [Hp] <;> iassumption
  isplitl [Ho]; · iexact Ho
  iexact HO

/-- A later group. -/
theorem st_group (c : Dev nD) (g : Fin 8) (k : ℕ) (hk : g.val = k + 1) {O : CellTallies nD τ sig Unit} (hO : Above 2 O) (hO' : Above 0 O) (Kt : PUnit → sProp 𝕄) :
    iprop(recs m K ∗ busy c g.val ∗ gIn m c g ∗ outPts c (outs m c k) ∗ owed c O)
      ⊢ iprop((iprop(idle c (g.val + 2) ∗ wRows m c g ∗ gOut m c g ∗ outPts c (outs m c g.val) ∗ owed c O) -∗ Kt ⟨⟩) -∗ run c (group c g) Kt) := by
  have hg : g ≠ 0 := fun h => by rw [h] at hk; exact absurd hk (Nat.succ_ne_zero k).symm
  have ho : outs m c g.val = k0_pay3 (panel m c g.val) (brick m c g.val) (outs m c k) := by rw [hk]; rfl
  rw [ho]
  unfold group
  simp only [run, wp_bind]
  iintro ⟨#HR, Hb, Hg, Ho, HO⟩ HK
  iapply (st_wWaits m K c g hO' _) $$ [Hb HO]
  · isplitr; · iexact HR
    isplitl [Hb]; · iexact Hb
    iexact HO
  iintro ⟨Ha, Hr, Hb, Hw, HO⟩
  iapply (st_recvs m K c g hg hO _) $$ [Hg HO]
  · isplitr; · iexact HR
    isplitl [Hg]; · iexact Hg
    iexact HO
  unfold gOut
  iintro ⟨⟨Hp, Hs⟩, HO⟩
  iapply (st_loadPanel m c g _) $$ Hp
  iintro Hp
  iapply (st_loadBank m c g _) $$ Hb
  iintro Hb
  iapply (st_loadOut c _ _) $$ Ho
  iintro Ho
  iapply (st_loadOut c _ _) $$ Ho
  iintro Ho
  iapply (st_storeOut c _ _ _) $$ Ho
  iintro Ho
  iapply HK
  isplitl [Ha Hr Hb]
  · iapply (bank_free m c g)
    isplitl [Ha]; · iexact Ha
    isplitl [Hr]; · iexact Hr
    iexact Hb
  isplitl [Hw]; · iexact Hw
  isplitl [Hp Hs]
  · isplitl [Hp] <;> iassumption
  isplitl [Ho]; · iexact Ho
  iexact HO

/-- All eight groups. -/
theorem st_products (c : Dev nD) {O : CellTallies nD τ sig Unit} (hO : Above 2 O) (hO' : Above 0 O) (Kt : PUnit → sProp 𝕄) :
    iprop(recs m K ∗ (busy c 0 ∗ busy c 1) ∗ bigSep Finset.univ (gIn m c)
        ∗ (wRows m c 2 ∗ bigSep Finset.univ fun g => wRows m c (ahead g)) ∗ (wTok c 2 ∗ bigSep Finset.univ fun g => wTok c (ahead g))
        ∗ (∃ f, outPts c f) ∗ owed c O)
      ⊢ iprop((iprop((idle c 8 ∗ idle c 9) ∗ bigSep Finset.univ (wRows m c) ∗ bigSep Finset.univ (gOut m c)
        ∗ outPts c (outs m c 7) ∗ owed c O) -∗ Kt ⟨⟩) -∗ run c (products c) Kt) := by
  unfold products
  rw [bigSep_mid (gIn m c), bigSep_mid (wRows m c), bigSep_mid (gOut m c)]
  simp only [run, wp_bind]
  iintro ⟨#HR, ⟨Hb0, Hb1⟩, ⟨Hg0, Hgs, Hg6, Hg7⟩, ⟨Hw2, Hws⟩, ⟨Ht2, Hts⟩, Ho, HO⟩ HK
  iapply (st_group0 m K c hO hO' _) $$ [Hb0 Hg0 Ho HO]
  · isplitr; · iexact HR
    isplitl [Hb0]; · iexact Hb0
    isplitl [Hg0]; · iexact Hg0
    isplitl [Ho]; · iexact Ho
    iexact HO
  iintro ⟨Hi, Hw0, Hg0, Ho, HO⟩
  iapply (st_wCopies m K c 2 _) $$ [Hi Hw2 Ht2]
  · isplitr; · iexact HR
    isplitl [Hi]; · iexact Hi
    isplitl [Hw2]; · iexact Hw2
    iexact Ht2
  iintro Hb2
  iapply (st_each c (recs m K) (fun g : Fin 5 => do
      group c (mid g)
      wCopies c (ahead g)) (fun g => iprop(gIn m c (mid g) ∗ wRows m c (ahead g) ∗ wTok c (ahead g)))
    (fun g => iprop(wRows m c (mid g) ∗ gOut m c (mid g)))
    (fun k => iprop(busy c (k + 1) ∗ busy c (k + 2) ∗ outPts c (outs m c k) ∗ owed c O)) ?h _) $$ [Hb1 Hb2 Hgs Hws Hts Ho HO]
  case h =>
    intro g Kt
    simp only [run, wp_bind]
    iintro ⟨#HR, ⟨Hg, Hw, Ht⟩, Hb1, Hb2, Ho, HO⟩ HK
    iapply (st_group m K c (mid g) g.val rfl hO hO' _) $$ [Hb1 Hg Ho HO]
    · isplitr; · iexact HR
      isplitl [Hb1]; · iexact Hb1
      isplitl [Hg]; · iexact Hg
      isplitl [Ho]; · iexact Ho
      iexact HO
    iintro ⟨Hi, Hwm, Hgm, Ho, HO⟩
    iapply (st_wCopies m K c (ahead g) _) $$ [Hi Hw Ht]
    · isplitr; · iexact HR
      isplitl [Hi]; · iexact Hi
      isplitl [Hw]; · iexact Hw
      iexact Ht
    iintro Hb3
    iapply HK
    isplitl [Hwm Hgm]
    · isplitl [Hwm] <;> iassumption
    isplitl [Hb2]; · iexact Hb2
    isplitl [Hb3]; · iexact Hb3
    isplitl [Ho]; · iexact Ho
    iexact HO
  · isplitr; · iexact HR
    isplitl [Hgs Hws Hts]
    · iapply join3
      isplitl [Hgs]; · iexact Hgs
      isplitl [Hws]; · iexact Hws
      iexact Hts
    isplitl [Hb1]; · iexact Hb1
    isplitl [Hb2]; · iexact Hb2
    isplitl [Ho]; · iexact Ho
    iexact HO
  rw [bigSep_sep']
  iintro ⟨⟨Hws, Hgs⟩, Hb6, Hb7, Ho, HO⟩
  iapply (st_group m K c 6 5 rfl hO hO' _) $$ [Hb6 Hg6 Ho HO]
  · isplitr; · iexact HR
    isplitl [Hb6]; · iexact Hb6
    isplitl [Hg6]; · iexact Hg6
    isplitl [Ho]; · iexact Ho
    iexact HO
  iintro ⟨Hi8, Hw6, Hg6, Ho, HO⟩
  iapply (st_group m K c 7 6 rfl hO hO' _) $$ [Hb7 Hg7 Ho HO]
  · isplitr; · iexact HR
    isplitl [Hb7]; · iexact Hb7
    isplitl [Hg7]; · iexact Hg7
    isplitl [Ho]; · iexact Ho
    iexact HO
  iintro ⟨Hi9, Hw7, Hg7, Ho, HO⟩
  iapply HK
  isplitl [Hi8 Hi9]
  · isplitl [Hi8]; · iexact Hi8
    iexact Hi9
  isplitl [Hw0 Hws Hw6 Hw7]
  · isplitl [Hw0]; · iexact Hw0
    isplitl [Hws]; · iexact Hws
    isplitl [Hw6] <;> iassumption
  isplitl [Hg0 Hgs Hg6 Hg7]
  · isplitl [Hg0]; · iexact Hg0
    isplitl [Hgs]; · iexact Hgs
    isplitl [Hg6] <;> iassumption
  isplitl [Ho]; · iexact Ho
  iexact HO

end Products

end Cert.Ring

end
-- ==== Proof.Ends.lean ====
/- The first and the third part of the body: the exchange of blocks started, and the exchange of maxima. -/
module

public import proofs.«01_k».proof.Proof.Products

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type} [FloatOps F]

local notation "𝕄" => MT nD τ sig Unit (Elt F) ℕ UU ℕ

omit [FloatOps F] in
theorem join4 {n : ℕ} (A B C D : Fin n → sProp 𝕄) :
    iprop(bigSep Finset.univ A ∗ bigSep Finset.univ B ∗ bigSep Finset.univ C ∗ bigSep Finset.univ D)
      ⊢ bigSep Finset.univ fun i => iprop(A i ∗ B i ∗ C i ∗ D i) :=
  Entails.of_eq (by rw [bigSep_sep', bigSep_sep', bigSep_sep'])

section Ends

variable (m : (ℓ : Loc nD τ sig) → Buf (Elt F) ℓ) (K : Dev nD × Key → ℕ)

theorem own_x_rect (c : Dev nD) (inb) : (Rect.unit (s := S4096x128) (k0_off2 c) S128x128.size inb).set = xSet c := by
  ext j
  refine (mem_rect inb (k0_off2_eq c) j).trans (Iff.trans ?_ (mem_x c j).symm)
  have h1 : (j 1).val < 128 := (j 1).isLt
  have e0 : S128x128.size 0 = 128 := rfl
  have e1 : S128x128.size 1 = 128 := rfl
  rw [e0, e1]
  omega
theorem own_slot_rect (inb) : (Rect.unit (s := S128x4096) ![0, 0] S128x128.size inb).set = slotSet 0 := slot_rect 0 inb

/-- The device's own block goes into its own slot. -/
theorem st_ownBlock (c : Dev nD) (Kt : PUnit → sProp 𝕄) :
    iprop(xPts c c (xstg m c) ∗ ∃ f, slotPts c 0 f)
      ⊢ iprop((iprop(xPts c c (xstg m c) ∗ slotPts c 0 (gath m c)) -∗ Kt ⟨⟩) -∗ run c (ownBlock (F := F) c) Kt) := by
  unfold xPts slotPts ownBlock
  simp only [run, wp_bind, Prog.lift]
  iintro ⟨Hx, ⟨%f, Hs⟩⟩ HK
  iapply (wp_load 𝒱₀ (c : Thread nD τ) none Set.univ (m := xM)
    (Memref.setOn_subset_of_access_subset (c := (c : Thread nD τ)) (m := xM) ((View.set_slice_whole cc0_stg0_0 _).trans (own_x_rect c (k0_off2_inb c))).subset)) $$ Hx
  iintro Hx
  rw [wp_ret]
  imodintro
  iapply (wp_load 𝒱₀ (c : Thread nD τ) none Set.univ (m := gM)
    (Memref.setOn_subset_of_access_subset (c := (c : Thread nD τ)) (m := gM) ((View.set_slice_whole cc0_scratch0 _).trans (own_slot_rect inb_S128x4096_S128x128_0_0)).subset)) $$ Hs
  iintro Hs
  rw [wp_ret]
  imodintro
  iapply (wp_store 𝒱₀ (c : Thread nD τ) none Set.univ (m := gM) (r := Rect.unit (s := S128x4096) ![0, 0] S128x128.size inb_S128x4096_S128x128_0_0)
    (Mk := Finset.univ) ((View.set_slice_whole cc0_scratch0 _).trans (own_slot_rect inb_S128x4096_S128x128_0_0)).subset) $$ Hs
  iintro Hs
  rw [wp_ret]
  imodintro
  iapply HK
  isplitl [Hx]; · iexact Hx
  iapply (Entails.of_eq (pointsTo_congr (q := fullShare) (ℓ := (c : Thread nD τ).loc cc0_scratch0) (fun j hj => own_agree m c inb_S128x4096_S128x128_0_0 (k0_off2_inb c) f j
    (by rw [own_slot_rect]; exact hj)))) $$ Hs

/-- The first part. -/
theorem st_opening (c : Dev nD) (Kt : PUnit → sProp 𝕄) :
    iprop(recs m K ∗ (idle c 0 ∗ idle c 1) ∗ (wRows m c 0 ∗ wRows m c 1) ∗ (wTok c 0 ∗ wTok c 1)
        ∗ (xPts c c (xstg m c) ∗ bigSep Finset.univ fun i : Fin 31 => xPts c (bwd c i) (xstg m c))
        ∗ ((∃ f, slotPts c 0 f) ∗ bigSep Finset.univ fun i : Fin 31 => iprop(∃ f, slotPts c i.succ f))
        ∗ (bigSep Finset.univ fun i : Fin 31 => iprop(∃ f, rowPts c (fwd c i) f))
        ∗ (bigSep Finset.univ fun i : Fin 31 => dutyTok ER (cell (fwd c i) kBar) 0 i)
        ∗ (cred (tallyAt (cell c kBar) () 31) ∗ atPos ER (cell c kBar) 0 ∅ 0)
        ∗ (bigSep Finset.univ fun i : Fin 31 => dutyTok ER (cell c (kX 0 i.succ)) 0 (0 : Fin 31))
        ∗ (bigSep Finset.univ fun i : Fin 31 => dutyTok ER (cell (bwd c i) (kX 1 i.succ)) 0 (0 : Fin 31))
        ∗ owed c (O₀ c))
      ⊢ iprop((iprop((busy c 0 ∗ busy c 1) ∗ xPts c c (xstg m c) ∗ slotPts c 0 (gath m c) ∗ atPos ER (cell c kBar) 1 ∅ 0
          ∗ (bigSep Finset.univ fun i : Fin 31 => cred (tallyAt (cell c (kX 0 i.succ)) () nX))
          ∗ (bigSep Finset.univ fun i : Fin 31 => iprop(∃ f, rowPts (fwd c i) c f))
          ∗ owed c (rest (oMax c) 0)) -∗ Kt ⟨⟩) -∗ run c (opening (F := F) c) Kt) := by
  unfold opening
  simp only [run, wp_bind]
  iintro ⟨#HR, ⟨Hi0, Hi1⟩, ⟨Hw0, Hw1⟩, ⟨Ht0, Ht1⟩, ⟨Hxc, Hxs⟩, ⟨Hs0, Hss⟩, Hrs, Htb, ⟨Hcb, Hab⟩, HtS, HtR, HO⟩ HK
  iapply (st_wCopies m K c 0 _) $$ [Hi0 Hw0 Ht0]
  · isplitr; · iexact HR
    isplitl [Hi0]; · iexact Hi0
    isplitl [Hw0]; · iexact Hw0
    iexact Ht0
  iintro Hb0
  iapply (st_wCopies m K c 1 _) $$ [Hi1 Hw1 Ht1]
  · isplitr; · iexact HR
    isplitl [Hi1]; · iexact Hi1
    isplitl [Hw1]; · iexact Hw1
    iexact Ht1
  iintro Hb1
  iapply (st_ownBlock m c _) $$ [Hxc Hs0]
  · isplitl [Hxc]; · iexact Hxc
    iexact Hs0
  iintro ⟨Hxc, Hs0⟩
  iapply (st_each c (recs m K) (signal c)
    (fun i => iprop(dutyTok ER (cell (fwd c i) kBar) 0 i ∗ (∃ f, slotPts c i.succ f) ∗ (∃ f, rowPts c (fwd c i) f)))
    (fun _ => iprop(emp)) (fun k => owed c (rest (oSig c) k + (rest (oSend c) 0 + rest (oMax c) 0)))
    (fun i Kt => st_signal m K c i _ Kt) _) $$ [Htb Hss Hrs HO]
  · isplitr; · iexact HR
    isplitr [HO]
    · iapply join3
      isplitl [Htb]; · iexact Htb
      isplitl [Hss]; · iexact Hss
      iexact Hrs
    · iexact HO
  rw [rest_end, zero_add]
  iintro ⟨-, HO⟩
  iapply (st_barWait m K c (above_add (above_send c (by decide) 0) (above_max c (by decide) 0)) _) $$ [HO Hcb Hab]
  · isplitr; · iexact HR
    isplitl [HO]; · iexact HO
    isplitl [Hcb]; · iexact Hcb
    iexact Hab
  rw [bigSep_sep']
  iintro ⟨HO, Hab, Hsl, Hrw⟩
  iapply (st_each c (recs m K) (send c)
    (fun i => iprop(xPts c (bwd c i) (xstg m c) ∗ (∃ f, slotPts (bwd c i) i.succ f) ∗ dutyTok ER (cell c (kX 0 i.succ)) 0 (0 : Fin 31)
      ∗ dutyTok ER (cell (bwd c i) (kX 1 i.succ)) 0 (0 : Fin 31)))
    (fun i => cred (tallyAt (cell c (kX 0 i.succ)) () nX)) (fun k => owed c (rest (oSend c) k + rest (oMax c) 0))
    (fun i Kt => st_sendBlock m K c i _ Kt) _) $$ [Hxs Hsl HtS HtR HO]
  · isplitr; · iexact HR
    isplitr [HO]
    · iapply join4
      isplitl [Hxs]; · iexact Hxs
      isplitl [Hsl]; · iexact Hsl
      isplitl [HtS]; · iexact HtS
      iexact HtR
    · iexact HO
  rw [rest_end, zero_add]
  iintro ⟨Hcs, HO⟩
  iapply HK
  isplitl [Hb0 Hb1]
  · isplitl [Hb0]; · iexact Hb0
    iexact Hb1
  isplitl [Hxc]; · iexact Hxc
  isplitl [Hs0]; · iexact Hs0
  isplitl [Hab]; · iexact Hab
  isplitl [Hcs]; · iexact Hcs
  isplitl [Hrw]
  · have h : (bigSep Finset.univ fun i : Fin 31 => iprop(∃ f, rowPts (bwd c i) c f))
        ⊢ (bigSep Finset.univ fun i : Fin 31 => iprop(∃ f, rowPts (fwd c i) c f) : sProp 𝕄) := by
      rw [bigSep_univ_equiv Fin.revPerm fun i : Fin 31 => (iprop(∃ f, rowPts (fwd c i) c f) : sProp 𝕄)]
      exact Entails.of_eq (bigSep_congr fun i _ => by rw [show Fin.revPerm i = i.rev from rfl, fwd_rev])
    iapply h $$ Hrw
  iexact HO

/-- The result clamped, its maximum stored. -/
theorem st_relu (c : Dev nD) (f : Vec F S128x8192 .f32) (Kt : PUnit → sProp 𝕄) :
    iprop(outPts c f ∗ ∃ g, vPts c fullShare g)
      ⊢ iprop((iprop(outPts c (k0_pay11 f) ∗ vPts c fullShare (k0_pay12 f)) -∗ Kt ⟨⟩) -∗ run c (relu (F := F)) Kt) := by
  unfold relu
  simp only [run, wp_bind]
  iintro ⟨Ho, ⟨%g, Hv⟩⟩ HK
  iapply (st_loadOut c f _) $$ Ho
  iintro Ho
  iapply (st_loadOut c f _) $$ Ho
  iintro Ho
  iapply (st_storeOut c f _ _) $$ Ho
  iintro Ho
  unfold vPts
  simp only [Prog.lift]
  iapply (wp_load 𝒱₀ (c : Thread nD τ) none Set.univ (m := vM) (Finset.subset_univ _)) $$ Hv
  iintro Hv
  rw [wp_ret]
  imodintro
  iapply (wp_store 𝒱₀ (c : Thread nD τ) none Set.univ (m := vM) (r := Rect.unit (s := S1x128) ![0, 0] S1x128.size inb_S1x128_S1x128_0_0)
    (Mk := Finset.univ) (Finset.subset_univ _)) $$ Hv
  iintro Hv
  rw [wp_ret]
  imodintro
  iapply HK
  isplitl [Ho]; · iexact Ho
  generalize k0_pay12 f = v
  rw [show (vM.access (Rect.unit (s := S1x128) ![0, 0] S1x128.size inb_S1x128_S1x128_0_0)).write (Elt F) g v Finset.univ = v from
    Memref.write_access_unit_zero_univ (Elt F) cc0_scratch2 hz _ g v]
  iexact Hv

/-- The device's own maximum goes into its own row. -/
theorem st_ownMax (c : Dev nD) (q : PosShare TreeShare) (v : Vec F S1x128 .f32) (A : Vec F S32x128 .f32)
    (hA : ∀ y1 : Fin 128, A (ix2 (c : Fin 32) y1) = v (ix2 (0 : Fin 1) y1)) (Kt : PUnit → sProp 𝕄) :
    iprop(vPts c q v ∗ ∃ f, rowPts c c f)
      ⊢ iprop((iprop(vPts c q v ∗ rowPts c c A) -∗ Kt ⟨⟩) -∗ run c (ownMax (F := F) c) Kt) := by
  unfold vPts rowPts ownMax
  simp only [run, wp_bind, Prog.lift]
  iintro ⟨Hv, ⟨%f, Hr⟩⟩ HK
  iapply (wp_load 𝒱₀ (c : Thread nD τ) none Set.univ (m := vM) (Finset.subset_univ _)) $$ Hv
  iintro Hv
  rw [wp_ret, show vM.view.readAt (Elt F) (Rect.unit (s := S1x128) ![0, 0] S1x128.size inb_S1x128_S1x128_0_0).toLoadRect v = v from
    Memref.readAt_unit_zero (Elt F) cc0_scratch2 hz _ v]
  imodintro
  iapply (wp_load 𝒱₀ (c : Thread nD τ) none Set.univ (m := aM)
    (Memref.setOn_subset_of_access_subset (c := (c : Thread nD τ)) (m := aM) ((View.set_slice_whole cc0_scratch3 _).trans (row_rect c (k0_off7_eq c) (k0_off7_inb c))).subset)) $$ Hr
  iintro Hr
  rw [wp_ret]
  imodintro
  iapply (wp_store 𝒱₀ (c : Thread nD τ) none Set.univ (m := aM) (r := Rect.unit (s := S32x128) (k0_off7 c) S1x128.size (k0_off7_inb c))
    (Mk := Finset.univ) ((View.set_slice_whole cc0_scratch3 _).trans (row_rect c (k0_off7_eq c) (k0_off7_inb c))).subset) $$ Hr
  iintro Hr
  rw [wp_ret]
  imodintro
  iapply HK
  isplitl [Hv]; · iexact Hv
  iapply (Entails.of_eq (pointsTo_congr (q := fullShare) (ℓ := (c : Thread nD τ).loc cc0_scratch3) (fun j hj => ownRow_agree c (k0_off7_inb c) v A f hA j
    (by rw [row_rect c (k0_off7_eq c)]; exact hj)))) $$ Hr

/-- The result rounded. -/
theorem st_quant (c : Dev nD) (f : Vec F S128x8192 .f32) (A : Vec F S32x128 .f32) (Kt : PUnit → sProp 𝕄) :
    iprop(outPts c f ∗ aPts c A)
      ⊢ iprop((iprop(outPts c (k0_pay15 (k0_pay14 A) f) ∗ aPts c A) -∗ Kt ⟨⟩) -∗ run c (quant (F := F)) Kt) := by
  unfold aPts quant
  simp only [run, wp_bind]
  iintro ⟨Ho, Ha⟩ HK
  simp only [Prog.lift]
  iapply (wp_load 𝒱₀ (c : Thread nD τ) none Set.univ (m := aM) (Finset.subset_univ _)) $$ Ha
  iintro Ha
  rw [wp_ret, show aM.view.readAt (Elt F) (Rect.unit (s := S32x128) ![0, 0] S32x128.size inb_S32x128_S32x128_0_0).toLoadRect A = A from
    Memref.readAt_unit_zero (Elt F) cc0_scratch3 hz _ A]
  imodintro
  iapply (st_loadOut c f _) $$ Ho
  iintro Ho
  iapply (st_loadOut c f _) $$ Ho
  iintro Ho
  iapply (st_storeOut c f _ _) $$ Ho
  iintro Ho
  iapply HK
  isplitl [Ho] <;> iassumption

theorem vPts_shares (c : Dev nD) (v : Vec F S1x128 .f32) : (vPts c fullShare v : sProp 𝕄)
    = iprop(vPts c (shareDrop fullShare 32) v ∗ bigSep Finset.univ fun j : Fin 32 => vPts c (shareTok fullShare 32 j) v) :=
  (Transfers.pointsTo_toks_split fullShare 32).antisymm (Transfers.pointsTo_toks_join fullShare 32)

theorem above_end (n : ℕ) (c : Dev nD) : Above n (rest (oMax c) 31) := by rw [rest_end]; exact above_zero n

/-- The third part. -/
theorem st_closing (c : Dev nD) (Kt : PUnit → sProp 𝕄) :
    iprop(recs m K ∗ outPts c (outs m c 7) ∗ (∃ f, vPts c fullShare f)
        ∗ (bigSep Finset.univ fun i : Fin 31 => iprop(∃ f, rowPts (fwd c i) c f)) ∗ (∃ f, rowPts c c f)
        ∗ (bigSep Finset.univ fun i : Fin 31 => dutyTok ER (cell c (kX 2 (fwd c i))) 0 (0 : Fin 31))
        ∗ (bigSep Finset.univ fun i : Fin 31 => dutyTok ER (cell (fwd c i) (kX 3 c)) 0 (0 : Fin 31))
        ∗ (bigSep Finset.univ fun i : Fin 31 => cred (tallyAt (cell c (kX 0 i.succ)) () nX))
        ∗ (bigSep Finset.univ fun i : Fin 31 => atPos ER (cell c (kX 0 i.succ)) 0 ∅ 0)
        ∗ (bigSep Finset.univ fun i : Fin 31 => cred (tallyAt (cell c (kX 3 (fwd c i))) () nV))
        ∗ (bigSep Finset.univ fun i : Fin 31 => atPos ER (cell c (kX 3 (fwd c i))) 0 ∅ 0)
        ∗ (bigSep Finset.univ fun i : Fin 31 => atPos ER (cell c (kX 2 (fwd c i))) 0 ∅ 0)
        ∗ owed c (rest (oMax c) 0))
      ⊢ iprop((iprop(outPts c (fin m c) ∗ vPts c fullShare (vmax m c) ∗ aPts c (amax m)
          ∗ (bigSep Finset.univ fun i : Fin 31 => xPts c (bwd c i) (xstg m c))
          ∗ (bigSep Finset.univ fun i : Fin 31 => atPos ER (cell c (kX 0 i.succ)) 1 ∅ 0)
          ∗ (bigSep Finset.univ fun i : Fin 31 => atPos ER (cell c (kX 3 (fwd c i))) 1 ∅ 0)
          ∗ (bigSep Finset.univ fun i : Fin 31 => atPos ER (cell c (kX 2 (fwd c i))) 1 ∅ 0)
          ∗ owed c 0) -∗ Kt ⟨⟩) -∗ run c (closing (F := F) c) Kt) := by
  unfold closing
  simp only [run, wp_bind]
  iintro ⟨#HR, Ho, Hv, Hrw, Hrc, HtA, HtM, Hcs, Has, Hcr, Har, Hat, HO⟩ HK
  iapply (st_relu c _ _) $$ [Ho Hv]
  · isplitl [Ho] <;> iassumption
  rw [show k0_pay12 (outs m c 7) = vmax m c from rfl]
  iintro ⟨Ho, Hv⟩
  ihave Hv := (Entails.of_eq ((vPts_shares c (vmax m c)).trans (by rw [bigSep_fwd c fun j : Fin 32 => vPts c (shareTok fullShare 32 j) (vmax m c)]))) $$ Hv
  icases Hv with ⟨Hvd, Hvc, Hvs⟩
  iapply (st_each c (recs m K) (maxSend c)
    (fun i => iprop(vPts c (shareTok fullShare 32 (fwd c i)) (vmax m c) ∗ (∃ f, rowPts (fwd c i) c f)
      ∗ dutyTok ER (cell c (kX 2 (fwd c i))) 0 (0 : Fin 31) ∗ dutyTok ER (cell (fwd c i) (kX 3 c)) 0 (0 : Fin 31)))
    (fun i => cred (tallyAt (cell c (kX 2 (fwd c i))) () nV)) (fun k => owed c (rest (oMax c) k))
    (fun i Kt => st_sendMax m K c i Kt) _) $$ [Hvs Hrw HtA HtM HO]
  · isplitr; · iexact HR
    isplitr [HO]
    · iapply join4
      isplitl [Hvs]; · iexact Hvs
      isplitl [Hrw]; · iexact Hrw
      isplitl [HtA]; · iexact HtA
      iexact HtM
    · iexact HO
  iintro ⟨Hct, HO⟩
  iapply (st_ownMax c (shareDrop fullShare 32) (vmax m c) (amax m) (amax_row m c) _) $$ [Hvd Hrc]
  · isplitl [Hvd] <;> iassumption
  iintro ⟨Hvd, Hrc⟩
  iapply (st_each c (recs m K) (sendWait c)
    (fun i => iprop(cred (tallyAt (cell c (kX 0 i.succ)) () nX) ∗ atPos ER (cell c (kX 0 i.succ)) 0 ∅ 0))
    (fun i => iprop(xPts c (bwd c i) (xstg m c) ∗ atPos ER (cell c (kX 0 i.succ)) 1 ∅ 0)) (fun _ => owed c (rest (oMax c) 31))
    ?h0 _) $$ [Hcs Has HO]
  case h0 =>
    intro i Kt
    iintro ⟨#HR, ⟨Hc, Ha⟩, HO⟩ HK
    iapply (st_sendWait m K c i (above_end 0 c) Kt) $$ [Hc Ha HO]
    · isplitr; · iexact HR
      isplitl [HO]; · iexact HO
      isplitl [Hc] <;> iassumption
    iintro ⟨HO, Ha, -, Hx⟩
    iapply HK
    isplitr [HO]
    · isplitl [Hx] <;> iassumption
    · iexact HO
  · isplitr; · iexact HR
    isplitr [HO]
    · iapply join2
      isplitl [Hcs] <;> iassumption
    · iexact HO
  rw [bigSep_sep']
  iintro ⟨⟨Hxs, Has⟩, HO⟩
  iapply (st_each c (recs m K) (maxRecv c)
    (fun i => iprop(cred (tallyAt (cell c (kX 3 (fwd c i))) () nV) ∗ atPos ER (cell c (kX 3 (fwd c i))) 0 ∅ 0))
    (fun i => iprop(rowPts c (fwd c i) (amax m) ∗ atPos ER (cell c (kX 3 (fwd c i))) 1 ∅ 0)) (fun _ => owed c (rest (oMax c) 31))
    ?h1 _) $$ [Hcr Har HO]
  case h1 =>
    intro i Kt
    iintro ⟨#HR, ⟨Hc, Ha⟩, HO⟩ HK
    iapply (st_recvMax m K c i (above_end 3 c) Kt) $$ [Hc Ha HO]
    · isplitr; · iexact HR
      isplitl [HO]; · iexact HO
      isplitl [Hc] <;> iassumption
    iintro ⟨HO, Ha, -, Hx⟩
    iapply HK
    isplitr [HO]
    · isplitl [Hx] <;> iassumption
    · iexact HO
  · isplitr; · iexact HR
    isplitr [HO]
    · iapply join2
      isplitl [Hcr] <;> iassumption
    · iexact HO
  rw [bigSep_sep']
  iintro ⟨⟨Hrs, Har⟩, HO⟩
  iapply (st_quant c _ (amax m) _) $$ [Ho Hrc Hrs]
  · isplitl [Ho]; · iexact Ho
    have h : iprop(rowPts c c (amax m) ∗ bigSep Finset.univ fun i : Fin 31 => rowPts c (fwd c i) (amax m)) ⊢ (aPts c (amax m) : sProp 𝕄) :=
      Entails.of_eq (by rw [aPts_rows, bigSep_fwd c fun j : Fin 32 => rowPts c j (amax m)])
    iapply h
    isplitl [Hrc] <;> iassumption
  iintro ⟨Ho, Hm⟩
  iapply (st_each c (recs m K) (maxSendWait c)
    (fun i => iprop(cred (tallyAt (cell c (kX 2 (fwd c i))) () nV) ∗ atPos ER (cell c (kX 2 (fwd c i))) 0 ∅ 0))
    (fun i => iprop(vPts c (shareTok fullShare 32 (fwd c i)) (vmax m c) ∗ atPos ER (cell c (kX 2 (fwd c i))) 1 ∅ 0)) (fun _ => owed c (rest (oMax c) 31))
    ?h2 _) $$ [Hct Hat HO]
  case h2 =>
    intro i Kt
    iintro ⟨#HR, ⟨Hc, Ha⟩, HO⟩ HK
    iapply (st_sentMax m K c i (above_end 0 c) Kt) $$ [Hc Ha HO]
    · isplitr; · iexact HR
      isplitl [HO]; · iexact HO
      isplitl [Hc] <;> iassumption
    iintro ⟨HO, Ha, -, Hx⟩
    iapply HK
    isplitr [HO]
    · isplitl [Hx] <;> iassumption
    · iexact HO
  · isplitr; · iexact HR
    isplitr [HO]
    · iapply join2
      isplitl [Hct] <;> iassumption
    · iexact HO
  rw [bigSep_sep', rest_end]
  iintro ⟨⟨Hvs, Hat⟩, HO⟩
  iapply HK
  isplitl [Ho]; · iexact Ho
  isplitl [Hvd Hvc Hvs]
  · iapply (Entails.of_eq ((vPts_shares c (vmax m c)).trans (by rw [bigSep_fwd c fun j : Fin 32 => vPts c (shareTok fullShare 32 j) (vmax m c)])).symm)
    isplitl [Hvd]; · iexact Hvd
    isplitl [Hvc] <;> iassumption
  isplitl [Hm]; · iexact Hm
  isplitl [Hxs]; · iexact Hxs
  isplitl [Has]; · iexact Has
  isplitl [Har]; · iexact Har
  isplitl [Hat]; · iexact Hat
  iexact HO

end Ends

end Cert.Ring

end
-- ==== Proof.Sound.lean ====
/- The whole body of one device, from what the launch deals it to empty semaphores. -/
module

public import proofs.«01_k».proof.Proof.Ends

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type} [FloatOps F]

local notation "𝕄" => MT nD τ sig Unit (Elt F) ℕ UU ℕ

omit [FloatOps F] in
/-- A family over the semaphores of device `c`: the barrier, the two banks, and the used members of the four rows of 32. -/
theorem bigSep_keys (c : Dev nD) (Φ : Key → sProp 𝕄) : bigSep Finset.univ Φ = iprop(Φ kBar
    ∗ ((bigSep Finset.univ fun t : Fin 4 => Φ (kW 0 t)) ∗ (bigSep Finset.univ fun t : Fin 4 => Φ (kW 1 t)))
    ∗ (Φ (kX 0 0) ∗ bigSep Finset.univ fun i : Fin 31 => Φ (kX 0 i.succ))
    ∗ (Φ (kX 1 0) ∗ bigSep Finset.univ fun i : Fin 31 => Φ (kX 1 i.succ))
    ∗ (Φ (kX 2 c) ∗ bigSep Finset.univ fun i : Fin 31 => Φ (kX 2 (fwd c i)))
    ∗ (Φ (kX 3 c) ∗ bigSep Finset.univ fun i : Fin 31 => Φ (kX 3 (fwd c i)))) := by
  have h1 : (bigSep Finset.univ fun u : Unit => Φ (.inl u)) = Φ kBar := bigSep_singleton
  have h2 : (bigSep Finset.univ fun b : Fin 2 => bigSep Finset.univ fun t : Fin 4 => Φ (kW b t))
      = iprop((bigSep Finset.univ fun t : Fin 4 => Φ (kW 0 t)) ∗ (bigSep Finset.univ fun t : Fin 4 => Φ (kW 1 t))) :=
    bigSep_univ_eq_bigSepL [0, 1] (by decide) (by decide) _
  have h3 : (bigSep Finset.univ fun n : Fin 4 => bigSep Finset.univ fun j : Fin 32 => Φ (kX n j))
      = iprop((bigSep Finset.univ fun j : Fin 32 => Φ (kX 0 j)) ∗ (bigSep Finset.univ fun j : Fin 32 => Φ (kX 1 j))
        ∗ (bigSep Finset.univ fun j : Fin 32 => Φ (kX 2 j)) ∗ (bigSep Finset.univ fun j : Fin 32 => Φ (kX 3 j))) :=
    bigSep_univ_eq_bigSepL [0, 1, 2, 3] (by decide) (by decide) _
  rw [bigSep_univ_sum, bigSep_univ_sum, h1, bigSep_univ_prod, bigSep_univ_prod, h2, h3,
    bigSep_succ (n := 31) (fun j => Φ (kX 0 j)), bigSep_succ (n := 31) (fun j => Φ (kX 1 j)), bigSep_fwd c (fun j => Φ (kX 2 j)),
    bigSep_fwd c (fun j => Φ (kX 3 j))]
  rfl

section Sound

variable (m : (ℓ : Loc nD τ sig) → Buf (Elt F) ℓ) (K : Dev nD × Key → ℕ)

/-- The round at which a semaphore of device `c` is done. -/
def endOf (c : Dev nD) : Key → ℕ
  | .inl _ => 1
  | kW _ _ => 4
  | kX n j => if j = (if n.val < 2 then 0 else c) then 0 else 1

theorem duties_end (c : Dev nD) (k : Key) (r : ℕ) (h : endOf c k ≤ r) : dutiesOf c k r = ∅ := by
  rcases k with _ | ⟨b, t⟩ | ⟨n, j⟩
  · exact if_neg (by have h : 1 ≤ r := h; omega)
  · exact if_neg (by have h : 4 ≤ r := h; omega)
  · refine if_neg fun hh => ?_
    have h : (if j = (if n.val < 2 then 0 else c) then 0 else 1) ≤ r := h
    rw [if_neg hh.2] at h
    omega

/-- A semaphore that is done is given up at zero. -/
theorem close_key (c : Dev nD) (k : Key) :
    iprop(recs m K ∗ atPos ER (cell c k) (endOf c k) ∅ 0) ⊢ (|={Set.univ}=> semVal (cell c k) 0 : sProp 𝕄) := by
  iintro ⟨#HR, Ha⟩
  ihave #HI := (recs_inv m K c k) $$ HR
  imod (Rounds.cell_close ER (ringRd m) (g := cell c k) (κ := K (c, k)) (Es := Set.univ) (Set.mem_univ _) (fun h => h) (R := endOf c k)
    (fun r hr => (rd_duties m c k r).trans (duties_end c k r hr))) $$ [Ha] with Hz
  · isplitr; · iexact HI
    iexact Ha
  imodintro
  iexact Hz

/-- All of a device's semaphores are given up at zero. -/
theorem close_all (c : Dev nD) :
    iprop(recs m K ∗ bigSep Finset.univ fun k : Key => atPos ER (cell c k) (endOf c k) ∅ 0)
      ⊢ (|={Set.univ}=> bigSep Finset.univ fun k : Key => semVal (cell c k) 0 : sProp 𝕄) := by
  iintro ⟨#HR, Ha⟩
  iapply (bigSep_fupd Finset.univ fun k : Key => (semVal (cell c k) 0 : sProp 𝕄))
  have h : iprop((bigSep Finset.univ fun _ : Key => recs m K) ∗ bigSep Finset.univ fun k : Key => atPos ER (cell c k) (endOf c k) ∅ 0)
      ⊢ (bigSep Finset.univ fun k : Key => iprop(|={Set.univ}=> semVal (cell c k) 0) : sProp 𝕄) :=
    (Entails.of_eq (bigSep_sep' _ _ _).symm).trans (bigSep_mono fun k _ => close_key m K c k)
  iapply h
  isplitr
  · iapply (BI.bigSep_of_persistent (I := Key) Finset.univ (recs m K)) $$ HR
  iexact Ha

theorem idle_one (c : Dev nD) (b : Fin 2) (t : Fin 4) (f : Vec F S2x512x8192 .f32) :
    iprop(recs m K ∗ atPos ER (cell c (kW b t)) 0 ∅ 0 ∗ partPts c b t f)
      ⊢ iprop(atPos ER (cell c (kW b t)) 0 ∅ 0 ∗ reached ER (cell c (kW b t)) 0 ∗ ∃ f, partPts c b t f) := by
  iintro ⟨#HR, Ha, Hp⟩
  isplitl [Ha]; · iexact Ha
  isplitr; · iapply (recs_reached m K c (kW b t)); iexact HR
  iexists f; iexact Hp

/-- A bank is free at the start. -/
theorem idle_start (c : Dev nD) (b : Fin 2) (f : Vec F S2x512x8192 .f32) :
    iprop(recs m K ∗ (bigSep Finset.univ fun t : Fin 4 => atPos ER (cell c (kW b t)) 0 ∅ 0) ∗ bigSep Finset.univ fun t : Fin 4 => partPts c b t f)
      ⊢ idle c b.val := by
  have hb : bk b.val = b := Fin.ext (Nat.mod_eq_of_lt b.isLt)
  have h0 : b.val / 2 = 0 := Nat.div_eq_of_lt b.isLt
  unfold idle
  rw [hb, h0]
  have h : iprop((bigSep Finset.univ fun _ : Fin 4 => recs m K) ∗ bigSep Finset.univ fun t : Fin 4 => iprop(atPos ER (cell c (kW b t)) 0 ∅ 0 ∗ partPts c b t f))
      ⊢ bigSep Finset.univ fun t : Fin 4 => iprop(atPos ER (cell c (kW b t)) 0 ∅ 0 ∗ reached ER (cell c (kW b t)) 0 ∗ ∃ f, partPts c b t f) :=
    (Entails.of_eq (bigSep_sep' _ _ _).symm).trans (bigSep_mono fun t _ => idle_one m K c b t f)
  iintro ⟨#HR, Ha, Hp⟩
  iapply h
  isplitr
  · iapply (BI.bigSep_of_persistent (I := Fin 4) Finset.univ (recs m K)) $$ HR
  iapply join2
  isplitl [Ha]; · iexact Ha
  iexact Hp

/-- A bank after its four groups. -/
theorem idle_end (c : Dev nD) (b : Fin 2) :
    (idle c (8 + b.val) : sProp 𝕄) ⊢ iprop((bigSep Finset.univ fun t : Fin 4 => atPos ER (cell c (kW b t)) 4 ∅ 0)
      ∗ bigSep Finset.univ fun t : Fin 4 => iprop(∃ f, partPts c b t f)) := by
  have hb : bk (8 + b.val) = b := Fin.ext (by have := b.isLt; show (8 + b.val) % 2 = b.val; omega)
  have h0 : (8 + b.val) / 2 = 4 := by have := b.isLt; omega
  unfold idle
  rw [hb, h0, bigSep_sep', bigSep_sep']
  iintro ⟨Ha, -, Hp⟩
  isplitl [Ha]; · iexact Ha
  iexact Hp

include m in
/-- The eight parts of the banks, at whatever they hold, are the banks. -/
theorem banks_any (c : Dev nD) :
    iprop((bigSep Finset.univ fun t : Fin 4 => iprop(∃ f, partPts c 0 t f)) ∗ bigSep Finset.univ fun t : Fin 4 => iprop(∃ f, partPts c 1 t f))
      ⊢ (iprop(∃ g, bPts c g) : sProp 𝕄) := by
  have h2 : (bigSep Finset.univ fun p : Fin 2 × Fin 4 => (iprop(∃ f, partPts c p.1 p.2 f) : sProp 𝕄))
      = iprop((bigSep Finset.univ fun t : Fin 4 => iprop(∃ f, partPts c 0 t f)) ∗ bigSep Finset.univ fun t : Fin 4 => iprop(∃ f, partPts c 1 t f)) := by
    rw [bigSep_univ_prod]
    exact bigSep_univ_eq_bigSepL [0, 1] (by decide) (by decide) _
  rw [← h2]
  haveI : Nonempty (Vec F S2x512x8192 .f32) := ⟨bank m c 0⟩
  refine (bigSep_exists_pi (I := Fin 2 × Fin 4) (Y := fun _ => Vec F S2x512x8192 .f32) Finset.univ fun p f => (partPts c p.1 p.2 f : sProp 𝕄)).trans ?_
  have h := fun f : Fin 2 × Fin 4 → Vec F S2x512x8192 .f32 => bPts_join (F := F) c f
  exact exists_elim h

/-- The banks, whatever they hold, are free at the start. -/
theorem idles_start (c : Dev nD) (f : Vec F S2x512x8192 .f32) :
    iprop(recs m K ∗ ((bigSep Finset.univ fun t : Fin 4 => atPos ER (cell c (kW 0 t)) 0 ∅ 0) ∗ (bigSep Finset.univ fun t : Fin 4 => atPos ER (cell c (kW 1 t)) 0 ∅ 0))
      ∗ bPts c f) ⊢ iprop(idle c 0 ∗ idle c 1) := by
  have h2 : (bPts c f : sProp 𝕄) = iprop((bigSep Finset.univ fun t : Fin 4 => partPts c 0 t f) ∗ bigSep Finset.univ fun t : Fin 4 => partPts c 1 t f) := by
    rw [bPts_parts, bigSep_univ_prod]
    exact bigSep_univ_eq_bigSepL [0, 1] (by decide) (by decide) _
  rw [h2]
  iintro ⟨#HR, ⟨Ha, Ha'⟩, Hp, Hp'⟩
  isplitl [Ha Hp]
  · iapply (idle_start m K c 0 f)
    isplitr; · iexact HR
    isplitl [Ha]; · iexact Ha
    iexact Hp
  · iapply (idle_start m K c 1 f)
    isplitr; · iexact HR
    isplitl [Ha']; · iexact Ha'
    iexact Hp'

/-- The slots by groups, as the products take them. -/
theorem gIn_all (c : Dev nD) :
    iprop(slotPts c 0 (gath m c) ∗ (bigSep Finset.univ fun i : Fin 31 => cred (tallyAt (cell c (kX 1 i.succ)) () nX))
      ∗ bigSep Finset.univ fun i : Fin 31 => atPos ER (cell c (kX 1 i.succ)) 0 ∅ 0) ⊢ bigSep Finset.univ (gIn m c) := by
  have h : bigSep Finset.univ (gIn m c) = iprop(slotPts c 0 (gath m c) ∗ bigSep Finset.univ fun i : Fin 31 =>
      iprop(cred (tallyAt (cell c (kX 1 i.succ)) () nX) ∗ atPos ER (cell c (kX 1 i.succ)) 0 ∅ 0)) :=
    (bigSep_groups (slotIn m c)).symm.trans (bigSep_succ _)
  rw [h]
  iintro ⟨H0, Hc, Ha⟩
  isplitl [H0]; · iexact H0
  iapply join2
  isplitl [Hc]; · iexact Hc
  iexact Ha

/-- The slots by groups, as the products leave them. -/
theorem gOut_all (c : Dev nD) :
    bigSep Finset.univ (gOut m c) ⊢ iprop(gPts c (gath m c) ∗ bigSep Finset.univ fun i : Fin 31 => atPos ER (cell c (kX 1 i.succ)) 1 ∅ 0) := by
  have h : (bigSep Finset.univ fun g : Fin 8 => bigSep Finset.univ fun t : Fin 4 => slotOut (F := F) c (stepOf g t))
      = iprop(emp ∗ bigSep Finset.univ fun i : Fin 31 => atPos ER (cell c (kX 1 i.succ)) 1 ∅ 0) :=
    (bigSep_groups (slotOut c)).symm.trans (bigSep_succ _)
  have h' : bigSep Finset.univ (gOut m c) = iprop((bigSep Finset.univ fun g : Fin 8 => panelPts c g (gath m c))
      ∗ bigSep Finset.univ fun g : Fin 8 => bigSep Finset.univ fun t : Fin 4 => slotOut (F := F) c (stepOf g t)) := bigSep_sep' _ _ _
  rw [h', h, gPts_panels]
  iintro ⟨Hp, -, Ha⟩
  isplitl [Hp]; · iexact Hp
  iexact Ha

/-- The right matrix by groups of rows. -/
theorem wAll_groups (c : Dev nD) : wAll c (wArr m c) = bigSep Finset.univ (wRows m c) := by
  rw [wAll_rows, bigSep_univ_equiv (fromC c) fun j : Fin 32 => wPts c j (wArr m c), bigSep_groups]
  rfl

/-- The staged columns: the device's own rows and the others'. -/
theorem xAll_bwd (c : Dev nD) (f : Vec F S4096x128 .f32) :
    (xAll c f : sProp 𝕄) = iprop(xPts c c f ∗ bigSep Finset.univ fun i : Fin 31 => xPts c (bwd c i) f) := by
  rw [xAll_rows]; exact bigSep_bwd c _

/-- The slots of the gathered rows, whatever they hold. -/
theorem slot_any (c : Dev nD) (s : Fin 32) (f : Vec F S128x4096 .f32) : (slotPts c s f : sProp 𝕄) ⊢ iprop(∃ f, slotPts c s f) := by
  iintro H; iexists f; iexact H
theorem row_any (c : Dev nD) (j : Fin 32) (f : Vec F S32x128 .f32) : (rowPts c j f : sProp 𝕄) ⊢ iprop(∃ f, rowPts c j f) := by
  iintro H; iexists f; iexact H
theorem slots_any (c : Dev nD) (f : Vec F S128x4096 .f32) :
    (gPts c f : sProp 𝕄) ⊢ iprop((∃ f, slotPts c 0 f) ∗ bigSep Finset.univ fun i : Fin 31 => iprop(∃ f, slotPts c i.succ f)) := by
  rw [gPts_slots, bigSep_succ]
  have h : (bigSep Finset.univ fun i : Fin 31 => (slotPts c i.succ f : sProp 𝕄)) ⊢ bigSep Finset.univ fun i : Fin 31 => iprop(∃ f, slotPts c i.succ f) :=
    bigSep_mono fun i _ => slot_any c i.succ f
  iintro ⟨H0, H⟩
  isplitl [H0]; · iexists f; iexact H0
  iapply h $$ H

/-- The rows of the maxima, whatever they hold. -/
theorem rows_any (c : Dev nD) (f : Vec F S32x128 .f32) :
    (aPts c f : sProp 𝕄) ⊢ iprop((∃ f, rowPts c c f) ∗ bigSep Finset.univ fun i : Fin 31 => iprop(∃ f, rowPts c (fwd c i) f)) := by
  rw [aPts_rows, bigSep_fwd c]
  have h : (bigSep Finset.univ fun i : Fin 31 => (rowPts c (fwd c i) f : sProp 𝕄)) ⊢ bigSep Finset.univ fun i : Fin 31 => iprop(∃ f, rowPts c (fwd c i) f) :=
    bigSep_mono fun i _ => row_any c (fwd c i) f
  iintro ⟨H0, H⟩
  isplitl [H0]; · iexists f; iexact H0
  iapply h $$ H

/-- The first positions of a device's semaphores. -/
def pos (c : Dev nD) : sProp 𝕄 := bigSep Finset.univ fun k : Key => atPos ER (cell c k) 0 ∅ 0
/-- The contributions device `c` is to make. -/
def payToks (c : Dev nD) : sProp 𝕄 :=
  iprop((bigSep Finset.univ fun i : Fin 31 => dutyTok ER (cell (fwd c i) kBar) 0 i) ∗ bigSep Finset.univ (wTok (F := F) c)
    ∗ (bigSep Finset.univ fun i : Fin 31 => dutyTok ER (cell c (kX 0 i.succ)) 0 (0 : Fin 31))
    ∗ (bigSep Finset.univ fun i : Fin 31 => dutyTok ER (cell (bwd c i) (kX 1 i.succ)) 0 (0 : Fin 31))
    ∗ (bigSep Finset.univ fun i : Fin 31 => dutyTok ER (cell c (kX 2 (fwd c i))) 0 (0 : Fin 31))
    ∗ bigSep Finset.univ fun i : Fin 31 => dutyTok ER (cell (fwd c i) (kX 3 c)) 0 (0 : Fin 31))
/-- What device `c` may wait for from the others. -/
def creds (c : Dev nD) : sProp 𝕄 :=
  iprop(cred (tallyAt (cell c kBar) () 31) ∗ (bigSep Finset.univ fun i : Fin 31 => cred (tallyAt (cell c (kX 1 i.succ)) () nX))
    ∗ bigSep Finset.univ fun i : Fin 31 => cred (tallyAt (cell c (kX 3 (fwd c i))) () nV))
/-- The four scratch buffers, whatever they hold. -/
def scr (c : Dev nD) : sProp 𝕄 := iprop((∃ f, gPts c f) ∗ (∃ f, bPts c f) ∗ (∃ f, vPts c fullShare f) ∗ ∃ f, aPts c f)

/-- The positions at the end, from the families the body leaves. -/
theorem pos_end (c : Dev nD) : iprop(atPos ER (cell c kBar) 1 ∅ 0
    ∗ ((bigSep Finset.univ fun t : Fin 4 => atPos ER (cell c (kW 0 t)) 4 ∅ 0) ∗ (bigSep Finset.univ fun t : Fin 4 => atPos ER (cell c (kW 1 t)) 4 ∅ 0))
    ∗ (atPos ER (cell c (kX 0 0)) 0 ∅ 0 ∗ bigSep Finset.univ fun i : Fin 31 => atPos ER (cell c (kX 0 i.succ)) 1 ∅ 0)
    ∗ (atPos ER (cell c (kX 1 0)) 0 ∅ 0 ∗ bigSep Finset.univ fun i : Fin 31 => atPos ER (cell c (kX 1 i.succ)) 1 ∅ 0)
    ∗ (atPos ER (cell c (kX 2 c)) 0 ∅ 0 ∗ bigSep Finset.univ fun i : Fin 31 => atPos ER (cell c (kX 2 (fwd c i))) 1 ∅ 0)
    ∗ (atPos ER (cell c (kX 3 c)) 0 ∅ 0 ∗ bigSep Finset.univ fun i : Fin 31 => atPos ER (cell c (kX 3 (fwd c i))) 1 ∅ 0))
    ⊢ (bigSep Finset.univ fun k : Key => atPos ER (cell c k) (endOf c k) ∅ 0 : sProp 𝕄) := by
  rw [bigSep_keys c fun k : Key => (atPos ER (cell c k) (endOf c k) ∅ 0 : sProp 𝕄)]
  have e2 : endOf c (kX 2 c) = 0 := if_pos rfl
  have e3 : endOf c (kX 3 c) = 0 := if_pos rfl
  have s0 (i : Fin 31) : endOf c (kX 0 i.succ) = 1 := rfl
  have s1 (i : Fin 31) : endOf c (kX 1 i.succ) = 1 := rfl
  have s2 (i : Fin 31) : endOf c (kX 2 (fwd c i)) = 1 := if_neg (fwd_ne c i)
  have s3 (i : Fin 31) : endOf c (kX 3 (fwd c i)) = 1 := if_neg (fwd_ne c i)
  simp only [e2, e3, s0, s1, s2, s3]
  exact .rfl

/-- Asking for the device's number gives it. -/
theorem st_dev (c : Dev nD) (Kt : Dev nD → sProp 𝕄) : Kt c ⊢ run c (Prog.lift .deviceId) Kt := by
  simp only [run, Prog.lift, wp_deviceId, wp_ret]
  iintro H
  imodintro
  iexact H

/-- The whole body on device `c`. -/
theorem sound_prog (c : Dev nD) (Kt : PUnit → sProp 𝕄) :
    iprop(recs m K ∗ pos c ∗ payToks c ∗ creds c ∗ wAll c (wArr m c) ∗ scr c ∗ xAll c (xstg m c) ∗ (∃ f, outPts c f) ∗ owed c (O₀ c))
      ⊢ iprop((xAll c (xstg m c) ∗ outPts c (fin m c) ∗ wAll c (wArr m c) ∗ scr c ∗ (bigSep Finset.univ fun k : Key => semVal (cell c k) 0) ∗ owed c 0 -∗ Kt ⟨⟩)
        -∗ run c prog Kt) := by
  unfold prog scr creds payToks pos
  simp only [run, wp_bind]
  rw [bigSep_keys c fun k : Key => (atPos ER (cell c k) 0 ∅ 0 : sProp 𝕄), bigSep_ahead (wTok (F := F) c), wAll_groups, xAll_bwd]
  iintro ⟨#HR, ⟨Pb, PW, ⟨P0u, P0⟩, ⟨P1u, P1⟩, ⟨P2u, P2⟩, ⟨P3u, P3⟩⟩, ⟨Tb, ⟨TW0, TW1, TW2, TW⟩, T0, T1, T2, T3⟩, ⟨Cb, C1, C3⟩, HW,
    ⟨⟨%fg, Hg⟩, ⟨%fb, Hb⟩, Hv, ⟨%fa, Ha⟩⟩, ⟨Hxc, Hx⟩, Hout, Ho⟩ HK
  iapply (st_dev c)
  ihave ⟨W0, W1, W2, W⟩ := (Entails.of_eq (bigSep_ahead (wRows m c))) $$ HW
  ihave ⟨Hg0, Hg⟩ := (slots_any c fg) $$ Hg
  ihave ⟨Ha0, Ha⟩ := (rows_any c fa) $$ Ha
  ihave ⟨Hi0, Hi1⟩ := (idles_start m K c fb) $$ [PW Hb]
  · isplitr; · iexact HR
    isplitl [PW]; · iexact PW
    iexact Hb
  iapply (st_opening m K c _) $$ [Hi0 Hi1 W0 W1 TW0 TW1 Hxc Hx Hg0 Hg Ha Tb Cb Pb T0 T1 Ho]
  · isplitr; · iexact HR
    isplitl [Hi0 Hi1]
    · isplitl [Hi0]; · iexact Hi0
      iexact Hi1
    isplitl [W0 W1]
    · isplitl [W0]; · iexact W0
      iexact W1
    isplitl [TW0 TW1]
    · isplitl [TW0]; · iexact TW0
      iexact TW1
    isplitl [Hxc Hx]
    · isplitl [Hxc]; · iexact Hxc
      iexact Hx
    isplitl [Hg0 Hg]
    · isplitl [Hg0]; · iexact Hg0
      iexact Hg
    isplitl [Ha]; · iexact Ha
    isplitl [Tb]; · iexact Tb
    isplitl [Cb Pb]
    · isplitl [Cb]; · iexact Cb
      iexact Pb
    isplitl [T0]; · iexact T0
    isplitl [T1]; · iexact T1
    iexact Ho
  iintro ⟨⟨Hb0, Hb1⟩, Hxc, Hs0, Pb, C0, Hrow, Ho⟩
  ihave Hgin := (gIn_all m c) $$ [Hs0 C1 P1]
  · isplitl [Hs0]; · iexact Hs0
    isplitl [C1]; · iexact C1
    iexact P1
  iapply (st_products m K c (above_max c (by decide) 0) (above_max c (by decide) 0) _) $$ [Hb0 Hb1 Hgin W2 W TW2 TW Hout Ho]
  · isplitr; · iexact HR
    isplitl [Hb0 Hb1]
    · isplitl [Hb0]; · iexact Hb0
      iexact Hb1
    isplitl [Hgin]; · iexact Hgin
    isplitl [W2 W]
    · isplitl [W2]; · iexact W2
      iexact W
    isplitl [TW2 TW]
    · isplitl [TW2]; · iexact TW2
      iexact TW
    isplitl [Hout]; · iexact Hout
    iexact Ho
  iintro ⟨⟨Hb0, Hb1⟩, HW, Hgout, Hout, Ho⟩
  ihave ⟨Hg, P1⟩ := (gOut_all m c) $$ Hgout
  ihave ⟨PW0, Hp0⟩ := (idle_end c 0) $$ Hb0
  ihave ⟨PW1, Hp1⟩ := (idle_end c 1) $$ Hb1
  ihave Hb := (banks_any m c) $$ [Hp0 Hp1]
  · isplitl [Hp0]; · iexact Hp0
    iexact Hp1
  iapply wp_fupd
  iapply (st_closing m K c _) $$ [Hout Hv Hrow Ha0 T2 T3 C0 P0 C3 P3 P2 Ho]
  · isplitr; · iexact HR
    isplitl [Hout]; · iexact Hout
    isplitl [Hv]; · iexact Hv
    isplitl [Hrow]; · iexact Hrow
    isplitl [Ha0]; · iexact Ha0
    isplitl [T2]; · iexact T2
    isplitl [T3]; · iexact T3
    isplitl [C0]; · iexact C0
    isplitl [P0]; · iexact P0
    isplitl [C3]; · iexact C3
    isplitl [P3]; · iexact P3
    isplitl [P2]; · iexact P2
    iexact Ho
  iintro ⟨Hout, Hv, Ha, Hx, P0, P3, P2, Ho⟩
  ihave Hend := (pos_end c) $$ [Pb PW0 PW1 P0u P0 P1u P1 P2u P2 P3u P3]
  · isplitl [Pb]; · iexact Pb
    isplitl [PW0 PW1]
    · isplitl [PW0]; · iexact PW0
      iexact PW1
    isplitl [P0u P0]
    · isplitl [P0u]; · iexact P0u
      iexact P0
    isplitl [P1u P1]
    · isplitl [P1u]; · iexact P1u
      iexact P1
    isplitl [P2u P2]
    · isplitl [P2u]; · iexact P2u
      iexact P2
    isplitl [P3u]; · iexact P3u
    iexact P3
  imod (close_all m K c) $$ [Hend] with Hz
  · isplitr; · iexact HR
    iexact Hend
  imodintro
  iapply HK
  isplitl [Hxc Hx]
  · isplitl [Hxc]; · iexact Hxc
    iexact Hx
  isplitl [Hout]; · iexact Hout
  isplitl [HW]; · iexact HW
  isplitl [Hg Hb Hv Ha]
  · isplitl [Hg]; · iexists _; iexact Hg
    isplitl [Hb]; · iexact Hb
    isplitl [Hv]; · iexists _; iexact Hv
    iexists _; iexact Ha
  isplitl [Hz]; · iexact Hz
  iexact Ho

end Sound

end Cert.Ring

end
-- ==== Proof.Deal.lean ====
/- What the launch deals the devices: invariants, positions, contributions and what each may wait for. -/
module

public import proofs.«01_k».proof.Proof.Sound

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type} [FloatOps F]

local notation "𝕄" => MT nD τ sig Unit (Elt F) ℕ UU ℕ

/-! ### Families over devices and distances -/

/-- The devices `i+1` places on. -/
def fwdE (i : Fin 31) : Dev nD ≃ Dev nD := ⟨fun c => fwd c i, fun c => bwd c i, fun c => bwd_fwd c i, fun c => fwd_bwd c i⟩

omit [FloatOps F] in
/-- A family over devices and distances, taken by distances. -/
theorem swap_families (D : Dev nD → Fin 31 → sProp 𝕄) :
    (bigSep Finset.univ fun c : Dev nD => bigSep Finset.univ fun i : Fin 31 => D c i)
      = bigSep Finset.univ fun i : Fin 31 => bigSep Finset.univ fun c : Dev nD => D c i := by
  rw [← bigSep_univ_prod fun x : Dev nD × Fin 31 => D x.1 x.2, bigSep_univ_equiv (Equiv.prodComm (Fin 31) (Dev nD)), bigSep_univ_prod]
  rfl
omit [FloatOps F] in
/-- A family over devices and distances, each distance's devices renamed. -/
theorem bigSep_shift (e : Fin 31 → Dev nD ≃ Dev nD) (D : Dev nD → Fin 31 → sProp 𝕄) :
    (bigSep Finset.univ fun c : Dev nD => bigSep Finset.univ fun i : Fin 31 => D c i)
      = bigSep Finset.univ fun c : Dev nD => bigSep Finset.univ fun i : Fin 31 => D (e i c) i := by
  rw [swap_families D, swap_families fun c i => D (e i c) i]
  exact bigSep_congr fun i _ => bigSep_univ_equiv (e i) fun c => D c i

/-- The same for sums. -/
theorem sum_shift {A : Type} [AddCommMonoid A] (e : Fin 31 → Dev nD ≃ Dev nD) (D : Dev nD → Fin 31 → A) :
    (∑ c : Dev nD, ∑ i : Fin 31, D c i) = ∑ c : Dev nD, ∑ i : Fin 31, D (e i c) i := by
  rw [Finset.sum_comm, Finset.sum_comm (s := (Finset.univ : Finset (Dev nD))) (t := (Finset.univ : Finset (Fin 31))) (f := fun c i => D (e i c) i)]
  exact Finset.sum_congr rfl fun i _ => (Equiv.sum_comp (e i) fun c => D c i).symm

/-! ### The launch credit -/

/-- What the others owe device `c`'s semaphores. -/
def due (c : Dev nD) : CellTallies nD τ sig Unit :=
  (∑ _i : Fin 31, tallyAt (cell c kBar) () 1)
    + ((∑ i : Fin 31, tallyAt (cell c (kX 1 i.succ)) () nX) + ∑ i : Fin 31, tallyAt (cell c (kX 3 (fwd c i))) () nV)

theorem sum_due : (∑ d, O₀ d) = ∑ d, due d := by
  unfold O₀ due
  simp only [rest_all, Finset.sum_add_distrib]
  refine congrArg₂ (· + ·) ?_ (congrArg₂ (· + ·) ?_ ?_)
  · exact (sum_shift fwdE fun d _ => tallyAt (cell d kBar) () 1).symm
  · exact (sum_shift (fun i => (fwdE i).symm) fun d i => tallyAt (cell d (kX 1 i.succ)) () nX).symm
  · refine (sum_shift (fun i => (fwdE i).symm) fun d i => (tallyAt (cell (fwd d i) (kX 3 d)) () nV : CellTallies nD τ sig Unit)).trans ?_
    refine Finset.sum_congr rfl fun d _ => ?_
    refine Eq.trans ?_ (Equiv.sum_comp Fin.revPerm fun i : Fin 31 => (tallyAt (cell d (kX 3 (fwd d i))) () nV : CellTallies nD τ sig Unit))
    refine Finset.sum_congr rfl fun i _ => ?_
    show tallyAt (cell (fwd (bwd d i) i) (kX 3 (bwd d i))) () nV = tallyAt (cell d (kX 3 (fwd d i.rev))) () nV
    rw [fwd_bwd, fwd_rev]

theorem tally_own (c : Dev nD) (k : Key) (n : ℕ) (g : GSem nD τ sig) (h : g.1 ≠ (c : Thread nD τ)) :
    (tallyAt (cell c k) () n : CellTallies nD τ sig Unit) g = 0 :=
  tallyAt_ne_cell (fun hg => h (congrArg Prod.fst hg)) () n

theorem due_own (d : Dev nD) (g : GSem nD τ sig) (h : due d g ≠ 0) : g.1 = (d : Thread nD τ) := by
  by_contra hg
  refine h ?_
  unfold due
  rw [Pi.add_apply, Pi.add_apply, Finset.sum_apply, Finset.sum_apply, Finset.sum_apply]
  simp only [tally_own d _ _ g hg, Finset.sum_const_zero, add_zero]

theorem tally_sum (g : GSem nD τ sig) (n : ℕ) : (∑ _i : Fin n, (tallyAt g () 1 : CellTallies nD τ sig Unit)) = tallyAt g () n := by
  induction n with
  | zero => rw [tallyAt_zero, Finset.univ_eq_empty, Finset.sum_empty]
  | succ n ih => rw [Fin.sum_univ_succ, ih, tallyAt_add, Nat.add_comm]

omit [FloatOps F] in
theorem cred_two (A B : CellTallies nD τ sig Unit) : (cred (A + B) : sProp 𝕄) = iprop(cred A ∗ cred B) :=
  (cred_add A B).1.antisymm (cred_add A B).2
omit [FloatOps F] in
theorem cred_all {n : ℕ} (f : Fin n → CellTallies nD τ sig Unit) : (cred (∑ i, f i) : sProp 𝕄) = bigSep Finset.univ fun i => cred (f i) := by
  induction n with
  | zero => rw [Finset.univ_eq_empty, bigSep_empty, Finset.sum_empty]; exact cred_zero
  | succ n ih => rw [Fin.sum_univ_succ, cred_two, ih, bigSep_succ]

omit [FloatOps F] in
/-- The launch deals device `c` what the others owe it. -/
theorem creds_launch (c : Dev nD) : (Pipeline.launchCred O₀ c : sProp 𝕄) ⊢ creds c := by
  rw [Pipeline.launchCred_of_sum O₀ due sum_due due_own c]
  unfold due creds
  rw [cred_two, cred_two, tally_sum, cred_all, cred_all]

/-! ### The contributions, minted by the devices that own the semaphores -/

/-- A device's contributions: to a bank's part in a group, or one of the five kinds at a distance. -/
abbrev Tk : Type := (Fin 8 × Fin 4) ⊕ (Fin 31 × Fin 5)

/-- Semaphore, round and contributor. -/
def tkKey (c : Dev nD) : Tk → Key × ℕ × Fin 31
  | .inl (g, t) => (kW (bankOf g) t, g.val / 2, 0)
  | .inr (i, ⟨0, _⟩) => (kBar, 0, i)
  | .inr (i, ⟨1, _⟩) => (kX 0 i.succ, 0, 0)
  | .inr (i, ⟨2, _⟩) => (kX 1 i.succ, 0, 0)
  | .inr (i, ⟨3, _⟩) => (kX 2 (fwd c i), 0, 0)
  | .inr (i, ⟨_ + 4, _⟩) => (kX 3 (bwd c i), 0, 0)

/-- The contribution behind a semaphore, a round and a contributor. -/
def keyTk (c : Dev nD) : Key × ℕ × Fin 31 → Tk
  | (.inl _, _, i) => .inr (i, 0)
  | (kW b t, r, _) => .inl (⟨(2 * r + b.val) % 8, Nat.mod_lt _ (by decide)⟩, t)
  | (kX ⟨0, _⟩ j, _, _) => .inr (⟨(j.val + 31 - 1) % 31, Nat.mod_lt _ (by decide)⟩, 1)
  | (kX ⟨1, _⟩ j, _, _) => .inr (⟨(j.val + 31 - 1) % 31, Nat.mod_lt _ (by decide)⟩, 2)
  | (kX ⟨2, _⟩ j, _, _) => .inr (⟨(j.val + 31 - c.val) % 32 % 31, Nat.mod_lt _ (by decide)⟩, 3)
  | (kX ⟨_ + 3, _⟩ j, _, _) => .inr (⟨(c.val + 31 - j.val) % 32 % 31, Nat.mod_lt _ (by decide)⟩, 4)

theorem keyTk_tkKey : ∀ (c : Dev nD) (x : Tk), keyTk c (tkKey c x) = x := by decide +kernel

/-- The tokens of the launch. -/
def tokOf (x : Dev nD × Tk) : GSem nD τ sig × ℕ × Fin 31 := (cell x.1 (tkKey x.1 x.2).1, (tkKey x.1 x.2).2)
theorem tokOf_inj : Function.Injective tokOf := by
  rintro ⟨c, x⟩ ⟨c', x'⟩ h
  have h1 := cell_inj (congrArg Prod.fst h)
  have hc : c = c' := h1.1
  subst hc
  have hs : (tkKey c x).2 = (tkKey c x').2 := congrArg (fun y : GSem nD τ sig × ℕ × Fin 31 => y.2) h
  have h2 : tkKey c x = tkKey c x' := Prod.ext h1.2 hs
  have h3 := congrArg (keyTk c) h2
  rw [keyTk_tkKey, keyTk_tkKey] at h3
  rw [h3]
theorem cellOf_key_inj : Function.Injective (fun x : Dev nD × Key => cell x.1 x.2) := fun _ _ h => Prod.ext (cell_inj h).1 (cell_inj h).2
/-- The semaphores of all devices, and their contributions. -/
def allCells : Finset (GSem nD τ sig) := Finset.univ.map ⟨fun x : Dev nD × Key => cell x.1 x.2, cellOf_key_inj⟩
def allToks : Finset (GSem nD τ sig × ℕ × Fin 31) := Finset.univ.map ⟨tokOf, tokOf_inj⟩

/-- The contributions to device `c`'s own semaphores. -/
def toks (c : Dev nD) : sProp 𝕄 :=
  iprop(bigSep Finset.univ (wTok (F := F) c)
    ∗ (bigSep Finset.univ fun i : Fin 31 => dutyTok ER (cell c kBar) 0 i)
    ∗ (bigSep Finset.univ fun i : Fin 31 => dutyTok ER (cell c (kX 0 i.succ)) 0 (0 : Fin 31))
    ∗ (bigSep Finset.univ fun i : Fin 31 => dutyTok ER (cell c (kX 1 i.succ)) 0 (0 : Fin 31))
    ∗ (bigSep Finset.univ fun i : Fin 31 => dutyTok ER (cell c (kX 2 (fwd c i))) 0 (0 : Fin 31))
    ∗ bigSep Finset.univ fun i : Fin 31 => dutyTok ER (cell c (kX 3 (bwd c i))) 0 (0 : Fin 31))

theorem toks_minted : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_sum, bigSep_univ_prod, bigSep_univ_prod]
  have h (Φ : Fin 5 → sProp 𝕄) : bigSep Finset.univ Φ = iprop(Φ 0 ∗ Φ 1 ∗ Φ 2 ∗ Φ 3 ∗ Φ 4) :=
    bigSep_univ_eq_bigSepL [0, 1, 2, 3, 4] (by decide) (by decide) Φ
  simp only [h]
  rw [bigSep_sep', bigSep_sep', bigSep_sep', bigSep_sep']
  rfl

/-- The contributions dealt to the devices that make them. -/
theorem toks_around : (bigSep Finset.univ fun c : Dev nD => (toks c : sProp 𝕄)) ⊢ bigSep Finset.univ fun c : Dev nD => payToks c := by
  have h3 : (bigSep Finset.univ fun c : Dev nD => bigSep Finset.univ fun i : Fin 31 => (dutyTok ER (cell c (kX 3 (bwd c i))) 0 (0 : Fin 31) : sProp 𝕄))
      = bigSep Finset.univ fun c : Dev nD => bigSep Finset.univ fun i : Fin 31 => dutyTok ER (cell (fwd c i) (kX 3 c)) 0 (0 : Fin 31) := by
    rw [bigSep_shift fwdE]
    exact bigSep_congr fun c _ => bigSep_congr fun i _ => by
      show dutyTok ER (cell (fwd c i) (kX 3 (bwd (fwd c i) i))) 0 (0 : Fin 31) = _
      rw [bwd_fwd]
  unfold toks payToks
  rw [bigSep_sep', bigSep_sep', bigSep_sep', bigSep_sep', bigSep_sep', bigSep_sep', bigSep_sep', bigSep_sep', bigSep_sep', bigSep_sep', h3,
    bigSep_shift fwdE fun c i => (dutyTok ER (cell c kBar) 0 i : sProp 𝕄),
    bigSep_shift (fun i => (fwdE i).symm) fun c i => (dutyTok ER (cell c (kX 1 i.succ)) 0 (0 : Fin 31) : sProp 𝕄)]
  iintro ⟨HW, Hb, H0, H1, H2, H3⟩
  isplitl [Hb]; · iexact Hb
  isplitl [HW]; · iexact HW
  isplitl [H0]; · iexact H0
  isplitl [H1]; · iexact H1
  isplitl [H2]; · iexact H2
  iexact H3

end Cert.Ring

end
-- ==== Proof.Launch.lean ====
/- The run of the whole program: the launch, the body of every device, and what the final memory holds. -/
module

public import proofs.«01_k».proof.Proof.Deal
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type} [FloatOps F]

local notation "𝕄" => MT nD τ sig Unit (Elt F) ℕ UU ℕ

open Idealize.ShloMosaic.Pipeline (Dat Cfg Window BodyObligation cellOf)

/-! ### The semaphores of a device, as the launch deals them -/

/-- The kernel's own semaphores. -/
def ownS (k : (Fin 2 × Fin 4) ⊕ (Fin 4 × Fin 32)) : SemLoc sig := sem (.inr k)

theorem ownS_facts : Pipeline.OwnSemFacts cfg0.spec ownS where
  isScoped := by decide +kernel
  inj := fun _ _ h => Sum.inr.inj (sem_inj h)
  disj := by decide +kernel

omit [FloatOps F] in
theorem unscoped_bar (c : Dev nD) : (unscopedSems0 c : sProp 𝕄) = semVal (cell c kBar) 0 := by
  unfold unscopedSems0; rw [bigSep_eq_bigSepL_of_eq [SemLoc.reg barSem] (by decide +kernel) (by decide)]; rfl

omit [FloatOps F] in
/-- All semaphores of a device at zero: the barrier's and the kernel's own. -/
theorem sems_split (c : Dev nD) : (bigSep Finset.univ fun k : Key => (semVal (cell c k) 0 : sProp 𝕄))
    = iprop(unscopedSems0 c ∗ Pipeline.ownSems0 ownS c) := by
  rw [unscoped_bar, bigSep_univ_sum, show (bigSep Finset.univ fun u : Unit => (semVal (cell c (.inl u)) 0 : sProp 𝕄)) = semVal (cell c kBar) 0 from bigSep_singleton]
  rfl

section Launch

variable (m : (ℓ : Loc nD τ sig) → Buf (Elt F) ℓ) (ρ : Dev nD → PrngReg)

/-- What every device knows before the order of the semaphores is fixed. -/
def recs' (K : Dev nD × Key → ℕ) : sProp 𝕄 :=
  iprop((bigSep Finset.univ fun x : Dev nD × Key => cellInv ER (ringRd m) (K x) (cell x.1 x.2))
    ∗ bigSep Finset.univ fun x : Dev nD × Key => reached ER (cell x.1 x.2) 0)
instance recs'_persistent (K : Dev nD × Key → ℕ) : BI.Persistent (recs' m K) := by unfold recs'; infer_instance

/-- What the launch mints for device `c`. -/
def G (c : Dev nD) : sProp 𝕄 :=
  iprop((bigSep Finset.univ fun k : Key => roundState ER (ringRd m) (cell c k) 0)
    ∗ ((bigSep Finset.univ fun k : Key => atPos ER (cell c k) 0 ∅ 0) ∗ bigSep Finset.univ fun k : Key => reached ER (cell c k) 0) ∗ toks c)
/-- What device `c` has of it once the invariants are shared and the contributions dealt. -/
def G' (c : Dev nD) : sProp 𝕄 := iprop(∃ K, recs' m K ∗ pos c ∗ payToks c)

def u₀ : UU :=
  (initOf (Pipeline.cells cfgs cellOf_inj) (Pipeline.launchToks cfgs cellOf_inj), initOf allCells allToks)

theorem fund_ring : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Key => Φ (cell c k) := by
    unfold allCells; rw [bigSep_map, bigSep_univ_prod]; rfl
  iintro HX
  imod (Rounds.fund ER (ringRd m) allCells allToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_minted (F := F))) $$ Htok
  unfold G; simp only [bigSep_sep']
  isplitl [Hst']; · iexact Hst'
  isplitl [Hat' Hr']
  · isplitl [Hat']; · iexact Hat'
    iexact Hr'
  iexact Htok'

/-- One device's semaphores become invariants. -/
theorem core_alloc (c : Dev nD) :
    iprop(Pipeline.ownSems0 (Ix := Unit) (Name := ℕ) (U := UU) (Lvl := ℕ) (Val := Elt F) (τ := τ) ownS c ∗ unscopedSems0 c ∗ G m c)
      ⊢ |={Set.univ}=> iprop((bigSep Finset.univ fun k : Key => iprop(∃ κ : ℕ, cellInv ER (ringRd m) κ (cell c k)))
          ∗ ((bigSep Finset.univ fun k : Key => atPos ER (cell c k) 0 ∅ 0) ∗ bigSep Finset.univ fun k : Key => reached ER (cell c k) 0) ∗ toks c) := by
  have hA : iprop((bigSep Finset.univ fun k : Key => semVal (cell c k) 0) ∗ bigSep Finset.univ fun k : Key => roundState ER (ringRd m) (cell c k) 0)
      ⊢ (|={Set.univ}=> bigSep Finset.univ fun k : Key => iprop(∃ κ : ℕ, cellInv ER (ringRd m) κ (cell c k)) : sProp 𝕄) := by
    rw [← bigSep_sep']
    exact (bigSep_mono fun k _ => (Rounds.body_intro ER (ringRd m) (cell c k)).trans inv_alloc).trans (bigSep_fupd _ _)
  unfold G
  iintro ⟨Hos, Hus, Hst, Hat, Htok⟩
  ihave Hv := (Entails.of_eq (sems_split (F := F) c).symm) $$ [Hos Hus]
  · isplitl [Hus]; · iexact Hus
    iexact Hos
  imod hA $$ [Hv Hst] with Hinv
  · isplitl [Hv]; · iexact Hv
    iexact Hst
  imodintro
  isplitl [Hinv]; · iexact Hinv
  isplitl [Hat]; · iexact Hat
  iexact Htok

theorem ghost_intro (K : Dev nD × Key → ℕ) (c : Dev nD) : iprop(recs' m K ∗ (pos c ∗ payToks c)) ⊢ G' m c := by
  unfold G'
  iintro ⟨#HR, Hp, Ht⟩
  iexists K
  isplitr; · iexact HR
  isplitl [Hp]; · iexact Hp
  iexact Ht

/-- All devices' invariants shared, the contributions dealt. -/
theorem regroup :
    (bigSep Finset.univ fun c : Dev nD => iprop((bigSep Finset.univ fun k : Key => iprop(∃ κ : ℕ, cellInv ER (ringRd m) κ (cell c k)))
          ∗ ((bigSep Finset.univ fun k : Key => atPos ER (cell c k) 0 ∅ 0) ∗ bigSep Finset.univ fun k : Key => reached ER (cell c k) 0) ∗ toks c) : sProp 𝕄)
      ⊢ bigSep Finset.univ (G' m) := by
  rw [bigSep_sep', bigSep_sep', bigSep_sep', ← bigSep_univ_prod (fun x : Dev nD × Key => iprop(∃ κ : ℕ, cellInv ER (ringRd m) κ (cell x.1 x.2))),
    ← bigSep_univ_prod (fun x : Dev nD × Key => (reached ER (cell x.1 x.2) 0 : sProp 𝕄))]
  iintro ⟨HI, ⟨Hat, #HR⟩, Htok⟩
  ihave HK := (BI.bigSep_exists_pi Finset.univ (fun (x : Dev nD × Key) (κ : ℕ) => (cellInv ER (ringRd m) κ (cell x.1 x.2) : sProp 𝕄))) $$ HI
  icases HK with ⟨%K, #HI⟩
  ihave Htk := (toks_around (F := F)) $$ Htok
  have h : iprop((bigSep Finset.univ fun _ : Dev nD => recs' m K) ∗ bigSep Finset.univ fun c : Dev nD => iprop(pos c ∗ payToks c)) ⊢ bigSep Finset.univ (G' m) :=
    (Entails.of_eq (bigSep_sep' _ _ _).symm).trans (bigSep_mono fun c _ => ghost_intro m K c)
  have h' : iprop((bigSep Finset.univ fun c : Dev nD => pos c) ∗ bigSep Finset.univ fun c : Dev nD => payToks c)
      ⊢ (bigSep Finset.univ fun c : Dev nD => iprop(pos c ∗ payToks c) : sProp 𝕄) := Entails.of_eq (bigSep_sep' _ _ _).symm
  iapply h
  isplitr
  · iapply (BI.bigSep_of_persistent (I := Dev nD) Finset.univ (recs' m K))
    unfold recs'
    isplitl; · iexact HI
    iexact HR
  iapply h'
  isplitl [Hat]
  · unfold pos; iexact Hat
  iexact Htk

theorem glob : (bigSep Finset.univ fun c => iprop(Pipeline.ownSems0 (Ix := Unit) (Name := ℕ) (U := UU) (Lvl := ℕ) (Val := Elt F) (τ := τ) ownS c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The proof data of the one region -/

/-- What device `c`'s body starts from. -/
def start (c : Dev nD) : sProp 𝕄 := iprop(∃ K, recs m K ∗ pos c ∗ payToks c ∗ creds c ∗ wAll c (wArr m c))
/-- Before the body. -/
def Φ₀ (c : Dev nD) : sProp 𝕄 := iprop(start m c ∗ scr c)
/-- After the body. -/
def Φ₁ (c : Dev nD) : sProp 𝕄 := iprop(wAll c (wArr m c) ∗ scr c ∗ bigSep Finset.univ fun k : Key => semVal (cell c k) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => fin m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (xstg m c) ∗ stg c cc0_stg1_0 (fin m c))

theorem before_x (c : Dev nD) (d) : (dats m 0 c).before (0 : Fin 2) t0_0 d = xstg m c := by
  unfold Dat.before; rw [if_pos (show (cfg0.win 0).fetch t0_0 = true from rfl)]; rfl

theorem sound_body (c : Dev nD) : bodyPre m c ⊢ run c prog (fun _ => bodyPost m c) := by
  unfold bodyPre Φ₀ start
  simp only [before_x]
  iintro ⟨⟨⟨%K, #HR, Hp, Ht, Hc, Hw⟩, Hs⟩, Ho, ⟨%d0, %g0, %hg0, Hx⟩, ⟨%d1, %g1, -, Hout⟩⟩
  subst hg0
  unfold Dat.owesAt Pipeline.owesWithin
  icases Ho with ⟨%W, -, HO⟩
  rw [show (dats m 0 c).owed t0_0.castSucc = O₀ c from rfl]
  iapply (sound_prog m K c fun _ => bodyPost m c) $$ [Hp Ht Hc Hw Hs Hx Hout HO]
  · isplitr; · iexact HR
    isplitl [Hp]; · iexact Hp
    isplitl [Ht]; · iexact Ht
    isplitl [Hc]; · iexact Hc
    isplitl [Hw]; · iexact Hw
    isplitl [Hs]; · iexact Hs
    isplitl [Hx]; · unfold xAll; iexact Hx
    isplitl [Hout]; · iexists g1; unfold outPts; iexact Hout
    unfold owed; iexists W; iexact HO
  unfold owed
  iintro ⟨Hx, Hout, Hw, Hs, Hz, ⟨%W', HO⟩⟩
  unfold bodyPost Φ₁ Dat.owesAt Pipeline.owesWithin
  rw [show (dats m 0 c).owed t0_0.succ = 0 from rfl]
  isplitl [Hw Hs Hz]
  · isplitl [Hw]; · iexact Hw
    isplitl [Hs]; · iexact Hs
    iexact Hz
  isplitl [HO]
  · iexists W'
    isplitr; · ipureintro; exact fun _ _ => Or.inl trivial
    iexact HO
  isplitl [Hx]
  · iexists _; isplitr; · (ipureintro; rfl)
    unfold xAll; iexact Hx
  iexists _; isplitr; · (ipureintro; rfl)
  unfold outPts; iexact Hout

set_option maxRecDepth 32768 in
/-- The body of every device takes the region's state before to the state after. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ (c : Thread nD τ) none) Set.univ
    (cc0__body xM (Memref.isWhole_whole _) wM (Memref.isWhole_whole _) oM (Memref.isWhole_whole _) gM (Memref.isWhole_whole _)
      bM (Memref.isWhole_whole _) vM (Memref.isWhole_whole _) aM (Memref.isWhole_whole _)
      cc0_scratch4 cc0_scratch5 cc0_scratch6 cc0_scratch7 cc0_scratch8) (fun _ => bodyPost m c)
  rw [body_eq_prog]
  exact sound_body m c

/-! ### The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show Pipeline.unscopedRest cfg0.spec c (fun b => m ((c : Thread nD τ).loc b)) = wAll c (wArr m c) from unscopedRest0_eq c _]
  unfold G' recs' start recs
  iintro ⟨Hw, Hlev, Hcr, -, ⟨%K, ⟨HI, HR⟩, Hp, Ht⟩⟩
  ihave Hc := (creds_launch (F := F) c) $$ Hcr
  imodintro
  isplitl
  · iexists K
    isplitl [HI HR Hlev]
    · isplitl [HI]; · iexact HI
      isplitl [HR]; · iexact HR
      iexact Hlev
    isplitl [Hp]; · iexact Hp
    isplitl [Ht]; · iexact Ht
    isplitl [Hc]; · iexact Hc
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scr c from scopedRest0_eq c]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ wAll c (wArr m c)) ∗ Pipeline.ownSems0 ownS c ∗ Pipeline.scopedRest cfg0.spec c) := by
  rw [show (dats m 0 c).Φ (Fin.last cfg0.N) = Φ₁ m c from rfl, show (Pipeline.scopedRest cfg0.spec c : sProp 𝕄) = scr c from scopedRest0_eq c]
  unfold Φ₁
  rw [sems_split]
  iintro ⟨Hw, Hs, Hu, Ho⟩
  isplitl [Hu Hw]
  · isplitl [Hu]; · iexact Hu
    iexact Hw
  isplitl [Ho]; · iexact Ho
  iexact Hs

theorem above_O₀ (c : Dev nD) : Above 0 (O₀ c) :=
  above_add (above_sig c (by decide) 0) (above_add (above_send c (by decide) 0) (above_max c (by decide) 0))

/-- A wait on a staging semaphore is allowed before and after the body. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  have hl : lv ((c : Thread nD τ), (.dma q : SemLoc sig)) () = 0 := by
    have hk : keyOf (.dma q : SemLoc sig) = none := by unfold keyOf; exact if_pos hq
    show (match keyOf (.dma q : SemLoc sig) with | none => 0 | some k => lvKey k) = 0
    rw [hk]
  refine mayWait_above (F := F) c _ ?_
  rw [hl]
  rcases hO with rfl | rfl
  · exact above_O₀ c
  · exact above_zero _

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the array of window `w` holds at the end. -/
def finalA (c : Dev nD) (w : Fin cfg0.W) : Buf (Elt F) ((cfg0.win w).arr.view.loc (c : Thread nD τ)) := (dats m 0 c).arrAt w cfg0.N

theorem w_read (c : Dev nD) (s' : Phys nD τ sig (Elt F)) :
    iprop((unscopedSems0 c ∗ wAll c (wArr m c)) ∗ emp ∗ SI s')
      ⊢ (|={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  unfold wAll
  iintro ⟨⟨Hu, Hw⟩, -, HSI⟩
  imod (Pipeline.unscopedSems0_read (X := unscopedSems0 c) (c := c) fupd_intro s') $$ [Hu HSI] with ⟨%h, HSI⟩
  · isplitl [Hu]; · iexact Hu
    iexact HSI
  ihave %h2 := (SI_pointsTo_agree (st := s') (ℓ := (c : Thread nD τ).loc main_arg1) (I := Finset.univ) (q := fullShare) (f := wArr m c)) $$ [HSI Hw]
  · isplitl [HSI]; · iexact HSI
    iexact Hw
  imodintro
  isplitr
  · ipureintro; exact ⟨h, funext fun i => h2 i (Finset.mem_univ i)⟩
  iexact HSI

set_option maxRecDepth 32768 in
/-- Every weakly fair execution of the program on the 32 devices, from any memory with zero counters, ends; each device's
    result array then holds the computed contents, its arguments are unchanged and every counter is zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownS_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ wAll c (wArr m c))) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := w_read m)
    (hQ := fun _ h hs => ⟨fun c => ⟨(h c).1, (h c).2.2.2⟩, sem_eq_zero hs fun c => (h c).2.2.1⟩)

/-- The staged argument's array is as it was. -/
theorem finalA_x (c : Dev nD) : finalA m c (0 : Fin 2) = m ((c : Thread nD τ).loc main_arg0) :=
  (dats (F := F) m 0 c).arrAt_in (0 : Fin 2) rfl _

end Launch

end Cert.Ring

end
-- ==== Proof.Value.lean ====
/- The values: what the kernel leaves on each device, and that it is that device's rows of the reference's result. -/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.LayoutAt
public import Idealize.ShloMosaic.Lib.ValueLayout

@[expose] public section

noncomputable section

namespace Cert.Ring

open Cert.KernelIdeal Cert.KernelIdeal.Gen
open Idealize.ShloMosaic Idealize.ShloMosaic.TcCoe
open Idealize.SL.Sem
open Idealize.ShloMosaic.ValueIdx (ix0 ix1 ix2 ix3)

/-! ### The whole arrays -/

section Arrays

variable {F : FTy → Type} [FloatOps F] (m : (ℓ : Loc nD τ sig) → Buf (Elt F) ℓ)

/-- A device's staged slice of the left matrix is its whole array. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array of a device ends at the contents the body left. -/
theorem finalA_out (c : Dev nD) : finalA m c (1 : Fin 2) = fin m c := by
  have hz : (fun a => (win0_1.index (0 : Fin 1)) a * main_v1.ty.shape.size a) = fun _ => 0 :=
    funext fun a => by fin_cases a <;> decide
  have hr := Memref.read_access_unit_zero (Elt F) main_v1 hz (fun a => by fin_cases a <;> decide) (finalA m c (1 : Fin 2))
  have ho : (win0_1.blk (0 : Fin 1)).view.read (Elt F) (finalA m c (1 : Fin 2)) = fin m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact hr.symm.trans ho

end Arrays

/-! ### Maxima -/

section Maxima

variable {F : FTy → Type} [FloatOps F]

/-- The largest entry of a block, as the kernel takes it. -/
def blockTop (Y : FVec F S1x128x8192 .f32) : F .f32 :=
  extractAt ![0, 0, 0] (shapeCast S1x1x1 (multiReduction .maximumf [1, 2] S1 Y 0xFF800000#32 reduces_S1x128x8192_S1 (.inl rfl) rfl)
    shapeCasts_S1_S1x1x1) inpos_S1x1x1_p0_0_0

theorem pay12_eq (O : FVec F S128x8192 .f32) : k0_pay12 (F := F) O
    = shapeCast S1x128 (broadcast S1x128 (blockTop (shapeCast S1x128x8192 (k0_pay11 (F := F) O) shapeCasts_S128x8192_S1x128x8192))) shapeCasts_S1x128_S1x128 := rfl

theorem lane_eq (z : F .f32) (i : S1x128.Idx) : shapeCast S1x128 (broadcast S1x128 z) shapeCasts_S1x128_S1x128 i = z :=
  congrFun (shapeCast_self _ shapeCasts_S1x128_S1x128) i

/-- A device's own maximum, in every lane, is the largest entry of its block. -/
theorem pay12_lane (O : FVec F S128x8192 .f32) (i : S1x128.Idx) : k0_pay12 (F := F) O i
    = blockTop (shapeCast S1x128x8192 (k0_pay11 (F := F) O) shapeCasts_S128x8192_S1x128x8192) :=
  (congrFun (pay12_eq O) i).trans (lane_eq _ i)

end Maxima

/-- The initial word of a maximum is minus infinity. -/
theorem bot_word : FloatOps.ofBits (F := Ideal) .f32 0xFF800000#32 = (⊥ : EReal) := by
  show Ideal.ofBits .f32 0xFF800000#32 = ⊥
  simp [Ideal.ofBits, Ideal.ieee]

/-- A maximum over all entries, in the kernel, is the least upper bound of the entries. -/
theorem multi_max {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t src 0xFF800000#32 h hφ hacc j = (⨆ i, src i : EReal) := by
  rw [multiReduction_maximumf_eq_fold, Finset.filter_true_of_mem fun i _ => funext fun b => Fin.ext (by
    have := (h.drop i b).isLt; have := (j b).isLt; have := ht b; omega), bot_word]
  exact Finset.sup_univ_eq_iSup (fun i => (src i : EReal))

/-- A maximum over all entries, in the reference, is the least upper bound of the entries. -/
theorem host_max {s t u : Shape} {axes : List (Fin s.rank)} (src : FVec Ideal s .f32) (init : FVec Ideal u .f32) (h : s.ReducesTo axes t) (ht : ∀ b, t.size b = 1)
    (hu : 0 < u.numel) (hi : init (Shape.Idx.first hu) = (⊥ : EReal)) (j : t.Idx) :
    Host.reduce FloatOps.maximumf src init h hu j = (⨆ i, src i : EReal) := by
  rw [Host.reduce_eq_fold, Finset.filter_true_of_mem fun i _ => funext fun b => Fin.ext (by
    have := (h.drop i b).isLt; have := (j b).isLt; have := ht b; omega), hi]
  exact Finset.sup_univ_eq_iSup (fun i => (src i : EReal))

/-! ### The product -/

/-- One term of the inner product of row `r` of the left matrix and column `j` of the right one; positions are taken around. -/
def term (X : FVec Ideal ⟨2, ![4096, 4096]⟩ .f32) (W : FVec Ideal ⟨2, ![4096, 8192]⟩ .f32) (r : Fin 4096) (j : Fin 8192) (n : ℕ) : EReal :=
  X (ix2 r ⟨n % 4096, Nat.mod_lt _ (by decide)⟩) * W (ix2 ⟨n % 4096, Nat.mod_lt _ (by decide)⟩ j)

/-- A sum of such terms once around, from any position, is the whole inner product. -/
theorem sum_around (X : FVec Ideal ⟨2, ![4096, 4096]⟩ .f32) (W : FVec Ideal ⟨2, ![4096, 8192]⟩ .f32) (r : Fin 4096) (j : Fin 8192) (a : ℕ) :
    ∑ n ∈ Finset.range 4096, term X W r j (a + n) = ∑ k : Fin 4096, X (ix2 r k) * W (ix2 k j) := by
  rw [Finset.sum_range]
  refine Fintype.sum_equiv (Equiv.addLeft (⟨a % 4096, Nat.mod_lt _ (by decide)⟩ : Fin 4096)) _ _ fun k => ?_
  have e : (⟨(a + k.val) % 4096, Nat.mod_lt _ (by decide)⟩ : Fin 4096) = Equiv.addLeft (⟨a % 4096, Nat.mod_lt _ (by decide)⟩ : Fin 4096) k :=
    Fin.ext (by rw [Equiv.coe_addLeft, Fin.val_add]; show (a + k.val) % 4096 = (a % 4096 + k.val) % 4096; omega)
  unfold term
  rw [e]

/-- Row `r` of device `c`'s rows, in the whole. -/
def row (c : Dev nD) (r : Fin 128) : Fin 4096 := ⟨128 * c.val + r.val, by have hc : c.val < 32 := c.isLt; have := r.isLt; omega⟩

section Ideal

variable (m : (ℓ : Loc nD τ sig) → Buf (Elt Ideal) ℓ)
variable (X : FVec Ideal ⟨2, ![4096, 4096]⟩ .f32) (W : FVec Ideal ⟨2, ![4096, 8192]⟩ .f32)

/-- The devices hold the column blocks of `X`, and each holds `W`. -/
structure Holds : Prop where
  x : ∀ (c : Dev nD) (i : Fin 4096) (k : Fin 128), m ((c : Thread nD τ).loc main_arg0) (ix2 i k) = X (ix2 i (row c k))
  w : ∀ c : Dev nD, m ((c : Thread nD τ).loc main_arg1) = W

variable {m X W}

/-- One term of a group's product, in the whole. -/
theorem Holds.factor (H : Holds m X W) (c : Dev nD) (g : ℕ) (hg : g < 8) (r : Fin 128) (k : Fin 512) (j : Fin 8192) :
    panel m c g (ix2 r k) * brick m c g (ix3 (0 : Fin 1) k j) = term X W (row c r) j (128 * c.val + (512 * g + k.val)) := by
  have hk := k.isLt
  have hc : c.val < 32 := c.isLt
  have e1 : panel m c g (ix2 r k) = X (ix2 (row c r) ⟨(128 * c.val + (512 * g + k.val)) % 4096, Nat.mod_lt _ (by decide)⟩) := by
    show xstg m (plus c ((512 * g + k.val) % 4096 / 128)) (ix2 (row c r) ⟨(512 * g + k.val) % 4096 % 128, _⟩) = _
    rw [xstg_eq, H.x]
    refine congrArg X (congrArg (ix2 (row c r)) (Fin.ext ?_))
    show 128 * ((c.val + (512 * g + k.val) % 4096 / 128) % 32) + (512 * g + k.val) % 4096 % 128 = (128 * c.val + (512 * g + k.val)) % 4096
    omega
  have e2 : brick m c g (ix3 (0 : Fin 1) k j) = W (ix2 ⟨(128 * c.val + (512 * g + k.val)) % 4096, Nat.mod_lt _ (by decide)⟩ j) := by
    show wArr m c (ix2 ⟨128 * ((c.val + (4 * g + k.val / 128)) % 32) + k.val % 128, _⟩ j) = _
    unfold wArr
    rw [H.w]
    refine congrArg W (congrArg (fun a => ix2 a j) (Fin.ext ?_))
    show 128 * ((c.val + (4 * g + k.val / 128)) % 32) + k.val % 128 = (128 * c.val + (512 * g + k.val)) % 4096
    omega
  rw [e1, e2]; rfl

/-- A group's product, from a zero accumulator, at an entry. -/
theorem pay2_apply (A : FVec Ideal S128x512 .f32) (B : FVec Ideal S1x512x8192 .f32) (r : Fin 128) (j : Fin 8192) :
    k0_pay2 (F := Ideal) A B (ix2 r j) = ∑ k : Fin 512, A (ix2 r k) * B (ix3 (0 : Fin 1) k j) := by
  refine (Ideal.matmul_plain_apply (M := 128) (K := 512) (N := 8192) none A
    (shapeCast S512x8192 B shapeCasts_S1x512x8192_S512x8192) (constant S128x8192 .f32 0x00000000#32) r j).trans ?_
  rw [show (constant (F := Ideal) S128x8192 .f32 0x00000000#32 (ix2 r j)) = (0 : EReal) from Ideal.ofBits_zero_f32, zero_add]
  refine Finset.sum_congr rfl fun k _ => congrArg (A (ix2 r k) * ·) ?_
  exact ValueIdx.shapeCast_1ab_ab_apply B _ k j

/-- A later group adds its product to what is there. -/
theorem pay3_apply (A : FVec Ideal S128x512 .f32) (B : FVec Ideal S1x512x8192 .f32) (O : FVec Ideal S128x8192 .f32) (r : Fin 128) (j : Fin 8192) :
    k0_pay3 (F := Ideal) A B O (ix2 r j) = O (ix2 r j) + ∑ k : Fin 512, A (ix2 r k) * B (ix3 (0 : Fin 1) k j) := by
  rw [← pay2_apply]
  exact congrArg (· + k0_pay2 (F := Ideal) A B (ix2 r j)) (congrFun (shapeCast_self O _) (ix2 r j))

/-- After group `g` an entry of the result is the sum of the terms of the groups done. -/
theorem Holds.outs (H : Holds m X W) (c : Dev nD) (r : Fin 128) (j : Fin 8192) : ∀ g : ℕ, g < 8 →
    Ring.outs m c g (ix2 r j) = ∑ n ∈ Finset.range (512 * (g + 1)), term X W (row c r) j (128 * c.val + n)
  | 0, h => by
    show k0_pay2 (panel m c 0) (brick m c 0) (ix2 r j) = _
    rw [pay2_apply, Finset.sum_range]
    refine Finset.sum_congr rfl fun k _ => (H.factor c 0 h r k j).trans ?_
    rw [Nat.mul_zero, Nat.zero_add]
  | g + 1, h => by
    show k0_pay3 (panel m c (g + 1)) (brick m c (g + 1)) (Ring.outs m c g) (ix2 r j) = _
    rw [pay3_apply, H.outs c r j g (by omega), show 512 * (g + 1 + 1) = 512 * (g + 1) + 512 from rfl, Finset.sum_range_add]
    refine congrArg (_ + ·) ?_
    rw [Finset.sum_range]
    exact Finset.sum_congr rfl fun k _ => H.factor c (g + 1) h r k j

/-- The product of the whole matrices, clamped below at zero. -/
def clamp (X : FVec Ideal ⟨2, ![4096, 4096]⟩ .f32) (W : FVec Ideal ⟨2, ![4096, 8192]⟩ .f32) (r : Fin 4096) (j : Fin 8192) : EReal :=
  max (∑ k : Fin 4096, X (ix2 r k) * W (ix2 k j)) 0

/-- Each device's clamped sums are its rows of the clamped product. -/
theorem Holds.clamped (H : Holds m X W) (c : Dev nD) (r : Fin 128) (j : Fin 8192) :
    k0_pay11 (Ring.outs m c 7) (ix2 r j) = clamp X W (row c r) j := by
  unfold clamp
  rw [← sum_around X W (row c r) j (128 * c.val), ← H.outs c r j 7 (by decide)]
  generalize Ring.outs m c 7 = O
  show max (shapeCast S128x8192 O _ (ix2 r j)) (FloatOps.ofBits (F := Ideal) .f32 0x00000000#32) = max (O (ix2 r j)) 0
  rw [shapeCast_self, show FloatOps.ofBits (F := Ideal) .f32 0x00000000#32 = (0 : EReal) from Ideal.ofBits_zero_f32]

/-- The largest entry of the whole clamped product. -/
def top (X : FVec Ideal ⟨2, ![4096, 4096]⟩ .f32) (W : FVec Ideal ⟨2, ![4096, 8192]⟩ .f32) : EReal :=
  ⨆ i : (⟨2, ![4096, 8192]⟩ : Shape).Idx, clamp X W (i 0) (i 1)

/-- A one-entry array read back as a number. -/
theorem extract_one (v : FVec Ideal S1 .f32) (y : EReal) (h : ∀ j, v j = y) :
    extractAt ![0, 0, 0] (shapeCast S1x1x1 v shapeCasts_S1_S1x1x1) inpos_S1x1x1_p0_0_0 = y := h _

/-- The largest entry of a block, as the kernel takes it, is the least upper bound of the entries. -/
theorem blockTop_eq (Y : FVec Ideal S1x128x8192 .f32) : blockTop Y = (⨆ i, Y i : EReal) :=
  extract_one _ _ fun j => multi_max Y reduces_S1x128x8192_S1 (fun b => by fin_cases b; rfl) (.inl rfl) rfl j

/-- The kernel's maximum over a block of entries, clamped, in every lane. -/
theorem pay12_apply (O : FVec Ideal S128x8192 .f32) (l : Fin 128) : k0_pay12 (F := Ideal) O (ix2 (0 : Fin 1) l)
    = (⨆ i, shapeCast S1x128x8192 (k0_pay11 (F := Ideal) O) shapeCasts_S128x8192_S1x128x8192 i : EReal) :=
  (pay12_lane O _).trans (blockTop_eq _)

/-- A device's own maximum is the largest of its rows of the clamped product. -/
theorem Holds.vmax (H : Holds m X W) (c : Dev nD) (l : Fin 128) :
    Ring.vmax m c (ix2 (0 : Fin 1) l) = (⨆ i : S1x128x8192.Idx, clamp X W (row c (i 1)) (i 2) : EReal) := by
  refine (pay12_apply (Ring.outs m c 7) l).trans (iSup_congr fun i => ?_)
  refine Eq.trans ?_ (H.clamped c (i 1) (i 2))
  generalize k0_pay11 (Ring.outs m c 7) = Y
  refine Eq.trans ?_ (ValueIdx.shapeCast_ab_1ab_apply Y shapeCasts_S128x8192_S1x128x8192 (i 0) (i 1) (i 2))
  exact congrArg (shapeCast S1x128x8192 Y shapeCasts_S128x8192_S1x128x8192) (funext fun a => by fin_cases a <;> rfl)

/-- The maximum over the gathered maxima of all devices is the largest entry of the whole clamped product. -/
theorem Holds.amax_sup (H : Holds m X W) :
    (⨆ i, shapeCast S1x32x128 (amax m) shapeCasts_S32x128_S1x32x128 i : EReal) = top X W := by
  have e : ∀ i : S1x32x128.Idx, shapeCast S1x32x128 (amax m) shapeCasts_S32x128_S1x32x128 i
      = (⨆ k : S1x128x8192.Idx, clamp X W (row (i 1 : Fin 32) (k 1)) (k 2) : EReal) := fun i => by
    refine Eq.trans ?_ (H.vmax (i 1 : Fin 32) (i 2))
    have h : amax m (ix2 (i 1 : Fin 32) (i 2 : Fin 128)) = Ring.vmax m (i 1 : Fin 32) (ix2 (0 : Fin 1) (i 2)) := rfl
    refine Eq.trans ?_ h
    generalize amax m = A
    refine Eq.trans ?_ (ValueIdx.shapeCast_ab_1ab_apply A shapeCasts_S32x128_S1x32x128 (i 0) (i 1) (i 2))
    exact congrArg (shapeCast S1x32x128 A shapeCasts_S32x128_S1x32x128) (funext fun a => by fin_cases a <;> rfl)
  refine (iSup_congr e).trans ?_
  unfold top
  refine le_antisymm (iSup_le fun i => iSup_le fun k => ?_) (iSup_le fun i => ?_)
  · exact le_iSup (fun i : (⟨2, ![4096, 8192]⟩ : Shape).Idx => clamp X W (i 0) (i 1)) (ix2 (row (i 1 : Fin 32) (k 1)) (k 2))
  · have hi : (i 0).val < 4096 := (i 0).isLt
    have h1 := le_iSup (fun k : S1x128x8192.Idx => clamp X W (row (⟨(i 0).val / 128, by omega⟩ : Fin 32) (k 1)) (k 2))
      (ix3 (0 : Fin 1) (⟨(i 0).val % 128, Nat.mod_lt _ (by decide)⟩ : Fin 128) (i 1))
    have h2 := le_iSup (fun i : S1x32x128.Idx => (⨆ k : S1x128x8192.Idx, clamp X W (row (i 1 : Fin 32) (k 1)) (k 2) : EReal))
      (ix3 (0 : Fin 1) (⟨(i 0).val / 128, by omega⟩ : Fin 32) (0 : Fin 128))
    refine le_trans (le_of_eq ?_) (h1.trans h2)
    show clamp X W (i 0) (i 1) = clamp X W (row (⟨(i 0).val / 128, by omega⟩ : Fin 32) (⟨(i 0).val % 128, Nat.mod_lt _ (by decide)⟩ : Fin 128)) (i 1)
    refine congrArg (fun a => clamp X W a (i 1)) (Fin.ext ?_)
    show (i 0).val = 128 * ((i 0).val / 128) + (i 0).val % 128
    omega

/-- The step of the rounding: the largest entry over 127. -/
def step (X : FVec Ideal ⟨2, ![4096, 4096]⟩ .f32) (W : FVec Ideal ⟨2, ![4096, 8192]⟩ .f32) : EReal :=
  Ideal.div (top X W) (Ideal.ofBits .f32 0x42FE0000#32)

/-- An entry rounded to the nearest multiple of the step, clipped at 127 steps either way. -/
def rounded (s y : EReal) : EReal :=
  min (Ideal.ofBits .f32 0x42FE0000#32) (max (Ideal.ofBits .f32 0xC2FE0000#32) (Ideal.liftRound Ideal.roundHalfEven (Ideal.div y s))) * s

/-- The whole result. -/
def result (X : FVec Ideal ⟨2, ![4096, 4096]⟩ .f32) (W : FVec Ideal ⟨2, ![4096, 8192]⟩ .f32) : FVec Ideal ⟨2, ![4096, 8192]⟩ .f32 :=
  fun i => rounded (step X W) (clamp X W (i 0) (i 1))

/-- The kernel's step is the step of the whole result. -/
theorem Holds.step (H : Holds m X W) : k0_pay14 (amax m) = Ring.step X W := by
  unfold Ring.step
  rw [← H.amax_sup]
  generalize amax m = A
  refine congrArg (fun a => Ideal.div a (Ideal.ofBits .f32 0x42FE0000#32)) ?_
  exact multi_max (shapeCast S1x32x128 A shapeCasts_S32x128_S1x32x128) reduces_S1x32x128_S1 (fun b => by fin_cases b; rfl) (.inl rfl) rfl _

/-- The kernel's rounding at an entry. -/
theorem pay15_apply (s : EReal) (Y : FVec Ideal S128x8192 .f32) (i : S128x8192.Idx) : k0_pay15 (F := Ideal) s Y i = rounded s (Y i) := by
  show rounded s (shapeCast S128x8192 Y shapeCasts_S128x8192_S128x8192 i) = _
  rw [shapeCast_self]

/-- What the kernel leaves on a device is that device's rows of the whole result. -/
theorem Holds.fin (H : Holds m X W) (c : Dev nD) (r : Fin 128) (j : Fin 8192) :
    Ring.fin m c (ix2 r j) = result X W (ix2 (row c r) j) := by
  have h1 := H.step
  have h2 := H.clamped c r j
  unfold Ring.fin
  revert h1 h2
  generalize k0_pay14 (amax m) = s
  generalize k0_pay11 (Ring.outs m c 7) = Y
  intro h1 h2
  rw [pay15_apply, h1, h2]
  rfl

end Ideal

/-! ### The reference -/

/-- A number not below zero is its own absolute value. -/
theorem abs_clamp (a : EReal) : max (max a 0) (-(max a 0)) = max a 0 :=
  max_eq_left ((EReal.neg_le_neg_iff.2 (le_max_right a 0)).trans (by rw [neg_zero]; exact le_max_right a 0))

/-- The reference's clamped product at an entry. -/
theorem ref_clamp (X : FVec Ideal ⟨2, ![4096, 4096]⟩ .f32) (W : FVec Ideal ⟨2, ![4096, 8192]⟩ .f32) (i : (⟨2, ![4096, 8192]⟩ : Shape).Idx) :
    maximumf (Host.dotGeneral ReferenceIdeal.dot_S4096x4096_S4096x8192_S4096x8192_1_0_0_1_n_n none X W)
      (broadcastInDim ReferenceIdeal.S4096x8192 ![] ReferenceIdeal.Gen.bcast_S_S4096x8192 (constant (F := Ideal) ReferenceIdeal.S_ .f32 0x00000000#32)) i
      = clamp X W (i 0) (i 1) := by
  have h : Host.dotGeneral ReferenceIdeal.dot_S4096x4096_S4096x8192_S4096x8192_1_0_0_1_n_n none X W i = ∑ k : Fin 4096, X (ix2 (i 0) k) * W (ix2 k (i 1)) := by
    rw [show i = ix2 (i 0) (i 1) from funext fun a => by fin_cases a <;> rfl]
    exact StackMember.dotGeneral_plain_apply (m := 4096) (k := 4096) (n := 8192) none X W (i 0) (i 1)
  unfold clamp
  rw [← h]
  generalize Host.dotGeneral ReferenceIdeal.dot_S4096x4096_S4096x8192_S4096x8192_1_0_0_1_n_n none X W = P
  show max (P i) (FloatOps.ofBits (F := Ideal) .f32 0x00000000#32) = max (P i) 0
  rw [show FloatOps.ofBits (F := Ideal) .f32 0x00000000#32 = (0 : EReal) from Ideal.ofBits_zero_f32]

section Reference

/-- The step the reference takes from a clamped product. -/
def refStep (Y : FVec Ideal ReferenceIdeal.S4096x8192 .f32) : FVec Ideal ReferenceIdeal.S_ .f32 :=
  Host.divf (Host.reduce FloatOps.maximumf (Host.absf Y) (constant ReferenceIdeal.S_ .f32 0xFF800000#32) ReferenceIdeal.Gen.reducesTo_S4096x8192_S_d0_1 ReferenceIdeal.Gen.h_S_)
    (constant ReferenceIdeal.S_ .f32 0x42FE0000#32)

/-- The reference's rounding of a clamped product at a step. -/
def refRound (Y : FVec Ideal ReferenceIdeal.S4096x8192 .f32) (s : FVec Ideal ReferenceIdeal.S_ .f32) : FVec Ideal ReferenceIdeal.S4096x8192 .f32 :=
  mulf (minimumf (broadcastInDim ReferenceIdeal.S4096x8192 ![] ReferenceIdeal.Gen.bcast_S_S4096x8192 (id (constant ReferenceIdeal.S_ .f32 0x42FE0000#32)))
    (maximumf (broadcastInDim ReferenceIdeal.S4096x8192 ![] ReferenceIdeal.Gen.bcast_S_S4096x8192 (id (constant ReferenceIdeal.S_ .f32 0xC2FE0000#32)))
      (Host.roundeven (Host.divf Y (broadcastInDim ReferenceIdeal.S4096x8192 ![] ReferenceIdeal.Gen.bcast_S_S4096x8192 s))))) (broadcastInDim ReferenceIdeal.S4096x8192 ![] ReferenceIdeal.Gen.bcast_S_S4096x8192 s)

theorem refRound_apply (Y : FVec Ideal ReferenceIdeal.S4096x8192 .f32) (s : FVec Ideal ReferenceIdeal.S_ .f32) (i : ReferenceIdeal.S4096x8192.Idx) : refRound Y s i = rounded (s ix0) (Y i) := by
  unfold refRound
  generalize hb : broadcastInDim ReferenceIdeal.S4096x8192 ![] ReferenceIdeal.Gen.bcast_S_S4096x8192 s = B
  have h : B i = s ix0 := by rw [← hb]; exact ValueIdx.broadcastInDim_scalar_apply ReferenceIdeal.Gen.bcast_S_S4096x8192 s i
  rw [← h]
  rfl

theorem refStep_apply (Y : FVec Ideal ReferenceIdeal.S4096x8192 .f32) (h : ∀ i, (Y i : EReal) = max (Y i) 0) :
    refStep Y ix0 = Ideal.div (⨆ i, Y i : EReal) (Ideal.ofBits .f32 0x42FE0000#32) := by
  have e : Host.absf Y = Y := funext fun i => by
    show max (Y i) (-(Y i)) = Y i
    rw [h i]; exact abs_clamp _
  unfold refStep
  rw [e]
  refine congrArg (fun a => Ideal.div a (Ideal.ofBits .f32 0x42FE0000#32)) ?_
  exact host_max Y (constant ReferenceIdeal.S_ .f32 0xFF800000#32) ReferenceIdeal.Gen.reducesTo_S4096x8192_S_d0_1 (fun b => b.elim0) ReferenceIdeal.Gen.h_S_ bot_word ix0

/-- What the reference computes is the whole result. -/
theorem ref_result (X : FVec Ideal ⟨2, ![4096, 4096]⟩ .f32) (W : FVec Ideal ⟨2, ![4096, 8192]⟩ .f32) (Y : FVec Ideal ReferenceIdeal.S4096x8192 .f32)
    (hY : ∀ i, Y i = clamp X W (i 0) (i 1)) : refRound Y (refStep Y) = result X W := funext fun i => by
  rw [refRound_apply, refStep_apply Y fun i => by rw [hY i]; exact (max_eq_left (le_max_right _ _)).symm]
  unfold result step top
  rw [hY i, iSup_congr hY]

end Reference

/-! ### The two runs -/

/-- From the layout of the left matrix by column blocks, and of the right matrix whole, what the devices hold. -/
theorem holds_of_layout (m : (ℓ : Loc nD τ sig) → Buf (Elt Ideal) ℓ) (X : FVec Ideal ⟨2, ![4096, 4096]⟩ .f32) (W : FVec Ideal ⟨2, ![4096, 8192]⟩ .f32)
    (hx : ∀ c : Dev nD, m ((c : Thread nD τ).loc main_arg0) = Layout.block ⟨2, ![4096, 128]⟩ ⟨2, ![4096, 4096]⟩ 1 32 c X)
    (hw : ∀ c : Dev nD, m ((c : Thread nD τ).loc main_arg1) = W) : Holds m X W :=
  ⟨fun c i k => (congrFun (hx c) (ix2 i k)).trans (congrArg X (funext fun a => Fin.ext (by
    fin_cases a
    · rfl
    · show c.val * 128 + k.val = 128 * c.val + k.val
      omega))), hw⟩

/-- Device `c`'s rows of the whole result, as a block. -/
theorem Holds.fin_block {m : (ℓ : Loc nD τ sig) → Buf (Elt Ideal) ℓ} {X : FVec Ideal ⟨2, ![4096, 4096]⟩ .f32} {W : FVec Ideal ⟨2, ![4096, 8192]⟩ .f32}
    (H : Holds m X W) (c : Dev nD) : Ring.fin m c = Layout.block ⟨2, ![128, 8192]⟩ ⟨2, ![4096, 8192]⟩ 0 32 c (result X W) := by
  refine funext fun i => ?_
  refine Eq.trans ?_ ((H.fin c (i 0) (i 1)).trans (congrArg (result X W) (funext fun a => Fin.ext ?_)))
  · exact congrArg (Ring.fin m c) (funext fun a => by fin_cases a <;> rfl)
  · fin_cases a
    · show 128 * c.val + (i 0).val = c.val * 128 + (i 0).val
      omega
    · rfl

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- Over any floats the kernel terminates from every memory, leaves its arguments and ends with every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨((h.1 c).1 (0 : Fin 2)).trans (Cert.Ring.finalA_x m c), (h.1 c).2⟩, h.2⟩)
    (Cert.Ring.run_main (F := F) m ρ)

/-- The idealised kernel's frame. -/
theorem frame_kernelIdeal : Cert.quiescent_KernelIdeal := fun m ρ _ => frame_any (F := Ideal) m ρ

/-- The two programs' kernels have the same text. -/
theorem defs₀_eq {F : FTy → Type} [FloatOps F] : Cert.Kernel.defs₀ (F := F) = Cert.KernelIdeal.defs₀ :=
  funext fun p => match p with
    | .tc => funext fun l => funext fun x => match l, x with
      | 0, (_, _) => rfl
    | .scScalar _ => rfl
    | .scVector _ _ => rfl

theorem defs_eq {F : FTy → Type} [FloatOps F] : Cert.Kernel.defs (F := F) = Cert.KernelIdeal.defs :=
  congrArg (Pipeline.defs (Cert.KernelIdeal.pcfgs (F := F))) defs₀_eq

/-- The frame of the kernel over machine floats. -/
theorem frame_kernel : Cert.quiescent_Kernel := fun m ρ _ => by
  have h := frame_any (F := Bits) m ρ
  rw [← defs_eq] at h
  exact h

/-- The reference terminates from every memory and leaves its arguments; it has no counter. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- At exact values every device ends with its rows of the reference's result. -/
theorem algebraic : Cert.algebraic_KernelIdeal_ReferenceIdeal := by
  intro m ρ m' ρ' _ hagree
  have H := Cert.Ring.holds_of_layout m (m' ((((0 : Dev Cert.ReferenceIdeal.nD)).tc : Thread _ Cert.ReferenceIdeal.τ).loc Cert.ReferenceIdeal.main_arg0))
    (m' ((((0 : Dev Cert.ReferenceIdeal.nD)).tc : Thread _ Cert.ReferenceIdeal.τ).loc Cert.ReferenceIdeal.main_arg1)) (fun c => (hagree c).1) (fun c => (hagree c).2)
  refine ⟨Cert.Ring.result (m' ((((0 : Dev Cert.ReferenceIdeal.nD)).tc : Thread _ Cert.ReferenceIdeal.τ).loc Cert.ReferenceIdeal.main_arg0))
    (m' ((((0 : Dev Cert.ReferenceIdeal.nD)).tc : Thread _ Cert.ReferenceIdeal.τ).loc Cert.ReferenceIdeal.main_arg1)), ?_, ?_⟩
  · exact (θ_run Cert.KernelIdeal.defs _ _).mono (fun _ h c =>
      ⟨(((h.1 c).1 (1 : Fin 2)).trans (Cert.Ring.finalA_out m c)).trans (H.fin_block c),
        ((h.1 c).1 (0 : Fin 2)).trans (Cert.Ring.finalA_x m c), (h.1 c).2⟩) (Cert.Ring.run_main (F := Ideal) m ρ)
  · exact (θ_run Cert.ReferenceIdeal.defs _ _).mono (fun _ h =>
      ⟨(h 0).1.trans (Cert.Ring.ref_result _ _ _ fun i => Cert.Ring.ref_clamp _ _ i), (h 0).2⟩) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
